-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x112x112 : Shape := ⟨3, ![4096, 112, 112]⟩
abbrev S112x8 : Shape := ⟨2, ![112, 8]⟩
abbrev S8x3584 : Shape := ⟨2, ![8, 3584]⟩
abbrev S32 : Shape := ⟨1, ![32]⟩
abbrev S32x1 : Shape := ⟨2, ![32, 1]⟩
abbrev S1 : Shape := ⟨1, ![1]⟩
abbrev S56x8 : Shape := ⟨2, ![56, 8]⟩
abbrev S8x1024 : Shape := ⟨2, ![8, 1024]⟩
abbrev S32x16 : Shape := ⟨2, ![32, 16]⟩
abbrev S16 : Shape := ⟨1, ![16]⟩
abbrev S16x1 : Shape := ⟨2, ![16, 1]⟩
abbrev S458752x112 : Shape := ⟨2, ![458752, 112]⟩
abbrev S8x112x32 : Shape := ⟨3, ![8, 112, 32]⟩
abbrev S1x32 : Shape := ⟨2, ![1, 32]⟩
abbrev S112x32 : Shape := ⟨2, ![112, 32]⟩
abbrev S56x1024 : Shape := ⟨2, ![56, 1024]⟩
abbrev S1x8 : Shape := ⟨2, ![1, 8]⟩
abbrev S8x1x32 : Shape := ⟨3, ![8, 1, 32]⟩
abbrev S8x32 : Shape := ⟨2, ![8, 32]⟩
abbrev S112x112 : Shape := ⟨2, ![112, 112]⟩
abbrev S56x32x32 : Shape := ⟨3, ![56, 32, 32]⟩
abbrev S1x1 : Shape := ⟨2, ![1, 1]⟩
abbrev S1x16 : Shape := ⟨2, ![1, 16]⟩
abbrev S4096x1 : Shape := ⟨2, ![4096, 1]⟩
abbrev S1792x112 : Shape := ⟨2, ![1792, 112]⟩
abbrev S56x16x32 : Shape := ⟨3, ![56, 16, 32]⟩
abbrev S896x56 : Shape := ⟨2, ![896, 56]⟩
abbrev S1792x32 : Shape := ⟨2, ![1792, 32]⟩
abbrev S112x56 : Shape := ⟨2, ![112, 56]⟩
abbrev S1x112 : Shape := ⟨2, ![1, 112]⟩
abbrev S112x1 : Shape := ⟨2, ![112, 1]⟩
abbrev S112 : Shape := ⟨1, ![112]⟩
abbrev S1x56 : Shape := ⟨2, ![1, 56]⟩
abbrev S32x112 : Shape := ⟨2, ![32, 112]⟩
abbrev S33x112 : Shape := ⟨2, ![33, 112]⟩
abbrev S33x16 : Shape := ⟨2, ![33, 16]⟩
abbrev S33x128 : Shape := ⟨2, ![33, 128]⟩
abbrev S1x72 : Shape := ⟨2, ![1, 72]⟩
abbrev S1x128 : Shape := ⟨2, ![1, 128]⟩
abbrev S33x128x1 : Shape := ⟨3, ![33, 128, 1]⟩
abbrev S33x56 : Shape := ⟨2, ![33, 56]⟩
abbrev S32x56 : Shape := ⟨2, ![32, 56]⟩
abbrev S56x32 : Shape := ⟨2, ![56, 32]⟩
abbrev S56x1x32 : Shape := ⟨3, ![56, 1, 32]⟩
abbrev S112x16 : Shape := ⟨2, ![112, 16]⟩
abbrev S112x128 : Shape := ⟨2, ![112, 128]⟩
abbrev S112x128x1 : Shape := ⟨3, ![112, 128, 1]⟩
abbrev S56x112 : Shape := ⟨2, ![56, 112]⟩
abbrev S56x16 : Shape := ⟨2, ![56, 16]⟩
abbrev S56x128 : Shape := ⟨2, ![56, 128]⟩
abbrev S56x128x1 : Shape := ⟨3, ![56, 128, 1]⟩
abbrev S56x56 : Shape := ⟨2, ![56, 56]⟩
abbrev S56 : Shape := ⟨1, ![56]⟩
abbrev S56x1 : Shape := ⟨2, ![56, 1]⟩
abbrev S1x16x32 : Shape := ⟨3, ![1, 16, 32]⟩
abbrev S16x32 : Shape := ⟨2, ![16, 32]⟩
abbrev S1x32x32 : Shape := ⟨3, ![1, 32, 32]⟩
abbrev S32x32 : Shape := ⟨2, ![32, 32]⟩

abbrev nBuf : Space → Nat
  | .hbm => 27
  | .vmem => 26
  | .smem => 0
  | _ => 0

abbrev bufTy : (tb : Table) → Fin (tcTables nBuf tb) → BufTy
  | .hbm, ⟨0, _⟩ => ⟨S4096x112x112, .f32⟩
  | .hbm, ⟨1, _⟩ => ⟨S112x8, .f32⟩
  | .hbm, ⟨2, _⟩ => ⟨S8x3584, .f32⟩
  | .hbm, ⟨3, _⟩ => ⟨S32, .f32⟩
  | .hbm, ⟨4, _⟩ => ⟨S32x1, .f32⟩
  | .hbm, ⟨5, _⟩ => ⟨S1, .f32⟩
  | .hbm, ⟨6, _⟩ => ⟨S56x8, .f32⟩
  | .hbm, ⟨7, _⟩ => ⟨S8x1024, .f32⟩
  | .hbm, ⟨8, _⟩ => ⟨S32, .f32⟩
  | .hbm, ⟨9, _⟩ => ⟨S32x1, .f32⟩
  | .hbm, ⟨10, _⟩ => ⟨S1, .f32⟩
  | .hbm, ⟨11, _⟩ => ⟨S32x16, .f32⟩
  | .hbm, ⟨12, _⟩ => ⟨S16, .f32⟩
  | .hbm, ⟨13, _⟩ => ⟨S16x1, .f32⟩
  | .hbm, ⟨14, _⟩ => ⟨S1, .f32⟩
  | .hbm, ⟨15, _⟩ => ⟨S458752x112, .f32⟩
  | .hbm, ⟨16, _⟩ => ⟨S8x112x32, .f32⟩
  | .hbm, ⟨17, _⟩ => ⟨S1x32, .f32⟩
  | .hbm, ⟨18, _⟩ => ⟨S112x32, .f32⟩
  | .hbm, ⟨19, _⟩ => ⟨S56x1024, .f32⟩
  | .hbm, ⟨20, _⟩ => ⟨S56x32x32, .f32⟩
  | .hbm, ⟨21, _⟩ => ⟨S1x32, .f32⟩
  | .hbm, ⟨22, _⟩ => ⟨S1x1, .f32⟩
  | .hbm, ⟨23, _⟩ => ⟨S1x1, .f32⟩
  | .hbm, ⟨24, _⟩ => ⟨S1x16, .f32⟩
  | .hbm, ⟨25, _⟩ => ⟨S1x1, .f32⟩
  | .hbm, ⟨26, _⟩ => ⟨S4096x1, .f32⟩
  | .local _ .vmem, ⟨0, _⟩ => ⟨S112x8, .f32⟩
  | .local _ .vmem, ⟨1, _⟩ => ⟨S8x112x32, .f32⟩
  | .local _ .vmem, ⟨2, _⟩ => ⟨S1x32, .f32⟩
  | .local _ .vmem, ⟨3, _⟩ => ⟨S56x8, .f32⟩
  | .local _ .vmem, ⟨4, _⟩ => ⟨S8x1024, .f32⟩
  | .local _ .vmem, ⟨5, _⟩ => ⟨S112x32, .f32⟩
  | .local _ .vmem, ⟨6, _⟩ => ⟨S56x1024, .f32⟩
  | .local _ .vmem, ⟨7, _⟩ => ⟨S112x32, .f32⟩
  | .local _ .vmem, ⟨8, _⟩ => ⟨S1792x112, .f32⟩
  | .local _ .vmem, ⟨9, _⟩ => ⟨S1792x112, .f32⟩
  | .local _ .vmem, ⟨10, _⟩ => ⟨S112x32, .f32⟩
  | .local _ .vmem, ⟨11, _⟩ => ⟨S56x32x32, .f32⟩
  | .local _ .vmem, ⟨12, _⟩ => ⟨S1x32, .f32⟩
  | .local _ .vmem, ⟨13, _⟩ => ⟨S32x1, .f32⟩
  | .local _ .vmem, ⟨14, _⟩ => ⟨S1x1, .f32⟩
  | .local _ .vmem, ⟨15, _⟩ => ⟨S32x1, .f32⟩
  | .local _ .vmem, ⟨16, _⟩ => ⟨S1x1, .f32⟩
  | .local _ .vmem, ⟨17, _⟩ => ⟨S32x16, .f32⟩
  | .local _ .vmem, ⟨18, _⟩ => ⟨S1x16, .f32⟩
  | .local _ .vmem, ⟨19, _⟩ => ⟨S16x1, .f32⟩
  | .local _ .vmem, ⟨20, _⟩ => ⟨S1x1, .f32⟩
  | .local _ .vmem, ⟨21, _⟩ => ⟨S16x1, .f32⟩
  | .local _ .vmem, ⟨22, _⟩ => ⟨S16x1, .f32⟩
  | .local _ .vmem, ⟨23, _⟩ => ⟨S56x16x32, .f32⟩
  | .local _ .vmem, ⟨24, _⟩ => ⟨S56x16x32, .f32⟩
  | .local _ .vmem, ⟨25, _⟩ => ⟨S896x56, .f32⟩
  | _, _ => ⟨S4096x112x112, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3_0 : Ref sig .tc := ⟨.hbm, 18, rfl⟩
abbrev main_v3_1 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg10_0 : Ref sig .tc := ⟨.vmem, 19, rfl⟩
abbrev cc1_stg11_0 : Ref sig .tc := ⟨.vmem, 20, rfl⟩
abbrev cc1_stg12_0 : Ref sig .tc := ⟨.vmem, 21, rfl⟩
abbrev cc1_stg12_1 : Ref sig .tc := ⟨.vmem, 22, rfl⟩
abbrev cc1_scratch0 : Ref sig .tc := ⟨.vmem, 23, rfl⟩
abbrev cc1_scratch1 : Ref sig .tc := ⟨.vmem, 24, rfl⟩
abbrev cc1_scratch2 : Ref sig .tc := ⟨.vmem, 25, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem10_0 : DmaSem sig := 18
abbrev cc1_sem11_0 : DmaSem sig := 19
abbrev cc1_sem12_0 : DmaSem sig := 20
abbrev cc1_sem12_1 : DmaSem sig := 21

abbrev nD : Nat := 1
abbrev τ : Topo := Topo.v7x

variable {F : FTy → Type} [FloatOps F]

abbrev grid0 : Pipeline.Grid := .none

abbrev stage0_0 : Fin 1 → Memref sig .tc .vmem S112x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x112x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S56x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S112x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S56x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev grid1 : Pipeline.Grid := ⟨1, ![256], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1792x112 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S112x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S56x32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S32x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S32x16 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x16 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S16x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S16x1 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]
-- ==== ReferenceIdeal.lean ====
abbrev S4096x112x112 : Shape := ⟨3, ![4096, 112, 112]⟩
abbrev S112x8 : Shape := ⟨2, ![112, 8]⟩
abbrev S8x3584 : Shape := ⟨2, ![8, 3584]⟩
abbrev S32 : Shape := ⟨1, ![32]⟩
abbrev S32x1 : Shape := ⟨2, ![32, 1]⟩
abbrev S1 : Shape := ⟨1, ![1]⟩
abbrev S56x8 : Shape := ⟨2, ![56, 8]⟩
abbrev S8x1024 : Shape := ⟨2, ![8, 1024]⟩
abbrev S32x16 : Shape := ⟨2, ![32, 16]⟩
abbrev S16 : Shape := ⟨1, ![16]⟩
abbrev S16x1 : Shape := ⟨2, ![16, 1]⟩
abbrev S112x112 : Shape := ⟨2, ![112, 112]⟩
abbrev S_ : Shape := ⟨0, ![]⟩
abbrev S112x3584 : Shape := ⟨2, ![112, 3584]⟩
abbrev S112x112x32 : Shape := ⟨3, ![112, 112, 32]⟩
abbrev S112x32x4096 : Shape := ⟨3, ![112, 32, 4096]⟩
abbrev S4096x112x32 : Shape := ⟨3, ![4096, 112, 32]⟩
abbrev S1x1x32 : Shape := ⟨3, ![1, 1, 32]⟩
abbrev S4096x112x1 : Shape := ⟨3, ![4096, 112, 1]⟩
abbrev S1x1x1 : Shape := ⟨3, ![1, 1, 1]⟩
abbrev S4096x112 : Shape := ⟨2, ![4096, 112]⟩
abbrev S4096x56 : Shape := ⟨2, ![4096, 56]⟩
abbrev S4096x56x1 : Shape := ⟨3, ![4096, 56, 1]⟩
abbrev S4096x56x32 : Shape := ⟨3, ![4096, 56, 32]⟩
abbrev S4096x56x112 : Shape := ⟨3, ![4096, 56, 112]⟩
abbrev S4096x1x56 : Shape := ⟨3, ![4096, 1, 56]⟩
abbrev S4096x56x56 : Shape := ⟨3, ![4096, 56, 56]⟩
abbrev S56x1024 : Shape := ⟨2, ![56, 1024]⟩
abbrev S56x32x32 : Shape := ⟨3, ![56, 32, 32]⟩
abbrev S56x32x4096 : Shape := ⟨3, ![56, 32, 4096]⟩
abbrev S4096x28 : Shape := ⟨2, ![4096, 28]⟩
abbrev S4096x28x1 : Shape := ⟨3, ![4096, 28, 1]⟩
abbrev S4096x28x32 : Shape := ⟨3, ![4096, 28, 32]⟩
abbrev S4096x28x56 : Shape := ⟨3, ![4096, 28, 56]⟩
abbrev S4096x1x28 : Shape := ⟨3, ![4096, 1, 28]⟩
abbrev S4096x28x28 : Shape := ⟨3, ![4096, 28, 28]⟩
abbrev S4096x32 : Shape := ⟨2, ![4096, 32]⟩
abbrev S4096x16 : Shape := ⟨2, ![4096, 16]⟩
abbrev S1x16 : Shape := ⟨2, ![1, 16]⟩
abbrev S4096x1 : Shape := ⟨2, ![4096, 1]⟩
abbrev S1x1 : Shape := ⟨2, ![1, 1]⟩

abbrev nBuf : Space → Nat
  | .hbm => 251
  | .vmem => 0
  | .smem => 0
  | _ => 0

abbrev hbmTy0_0 (i : Nat) : BufTy := match i % 128 with
  | 0 => ⟨S4096x112x112, .f32⟩
  | 1 => ⟨S112x8, .f32⟩
  | 2 => ⟨S8x3584, .f32⟩
  | 3 => ⟨S32, .f32⟩
  | 4 => ⟨S32x1, .f32⟩
  | 5 => ⟨S1, .f32⟩
  | 6 => ⟨S56x8, .f32⟩
  | 7 => ⟨S8x1024, .f32⟩
  | 8 => ⟨S32, .f32⟩
  | 9 => ⟨S32x1, .f32⟩
  | 10 => ⟨S1, .f32⟩
  | 11 => ⟨S32x16, .f32⟩
  | 12 => ⟨S16, .f32⟩
  | 13 => ⟨S16x1, .f32⟩
  | 14 => ⟨S1, .f32⟩
  | 15 => ⟨S112x112, .i32⟩
  | 16 => ⟨S112x112, .i32⟩
  | 17 => ⟨S_, .i32⟩
  | 18 => ⟨S112x112, .i32⟩
  | 19 => ⟨S112x112, .i32⟩
  | 20 => ⟨S112x112, .i1⟩
  | 21 => ⟨S112x112, .f32⟩
  | 22 => ⟨S4096x112x112, .f32⟩
  | 23 => ⟨S112x3584, .f32⟩
  | 24 => ⟨S112x112x32, .f32⟩
  | 25 => ⟨S112x32x4096, .f32⟩
  | 26 => ⟨S4096x112x32, .f32⟩
  | 27 => ⟨S1x1x32, .f32⟩
  | 28 => ⟨S4096x112x32, .f32⟩
  | 29 => ⟨S4096x112x32, .f32⟩
  | 30 => ⟨S4096x112x32, .f32⟩
  | 31 => ⟨S4096x112x32, .f32⟩
  | 32 => ⟨S_, .f32⟩
  | 33 => ⟨S4096x112x32, .f32⟩
  | 34 => ⟨S4096x112x32, .f32⟩
  | 35 => ⟨S4096x112x1, .f32⟩
  | 36 => ⟨S1x1x1, .f32⟩
  | 37 => ⟨S4096x112x1, .f32⟩
  | 38 => ⟨S4096x112x1, .f32⟩
  | 39 => ⟨S4096x112, .f32⟩
  | 40 => ⟨S4096x112, .f32⟩
  | 41 => ⟨S4096x112, .f32⟩
  | 42 => ⟨S_, .f32⟩
  | 43 => ⟨S4096x112, .f32⟩
  | 44 => ⟨S4096x112, .f32⟩
  | 45 => ⟨S_, .f32⟩
  | 46 => ⟨S4096x112, .f32⟩
  | 47 => ⟨S4096x112, .f32⟩
  | 48 => ⟨S4096x56, .f32⟩
  | 49 => ⟨S4096x56, .i32⟩
  | 50 => ⟨S4096x56x1, .i32⟩
  | 51 => ⟨S_, .i32⟩
  | 52 => ⟨S4096x56x1, .i32⟩
  | 53 => ⟨S4096x56x1, .i1⟩
  | 54 => ⟨S_, .i32⟩
  | 55 => ⟨S4096x56x1, .i32⟩
  | 56 => ⟨S4096x56x1, .i32⟩
  | 57 => ⟨S4096x56x1, .i32⟩
  | 58 => ⟨S1, .i32⟩
  | 59 => ⟨S_, .i32⟩
  | 60 => ⟨S4096x56x1, .i32⟩
  | 61 => ⟨S4096x56x1, .i1⟩
  | 62 => ⟨S1x1x1, .i32⟩
  | 63 => ⟨S4096x56x1, .i32⟩
  | 64 => ⟨S4096x56x1, .i1⟩
  | 65 => ⟨S4096x56x1, .i1⟩
  | 66 => ⟨S_, .i1⟩
  | 67 => ⟨S4096x56, .i1⟩
  | 68 => ⟨S4096x56x32, .f32⟩
  | 69 => ⟨S4096x56x32, .i1⟩
  | 70 => ⟨S_, .f32⟩
  | 71 => ⟨S4096x56x32, .f32⟩
  | 72 => ⟨S4096x56x32, .f32⟩
  | 73 => ⟨S4096x56x1, .f32⟩
  | 74 => ⟨S4096x56x32, .f32⟩
  | 75 => ⟨S4096x56x32, .f32⟩
  | 76 => ⟨S4096x56x1, .i32⟩
  | 77 => ⟨S_, .i32⟩
  | 78 => ⟨S4096x56x1, .i32⟩
  | 79 => ⟨S4096x56x1, .i1⟩
  | 80 => ⟨S_, .i32⟩
  | 81 => ⟨S4096x56x1, .i32⟩
  | 82 => ⟨S4096x56x1, .i32⟩
  | 83 => ⟨S4096x56x1, .i32⟩
  | 84 => ⟨S1, .i32⟩
  | 85 => ⟨S_, .i32⟩
  | 86 => ⟨S4096x56x1, .i32⟩
  | 87 => ⟨S4096x56x1, .i1⟩
  | 88 => ⟨S1x1x1, .i32⟩
  | 89 => ⟨S4096x56x1, .i32⟩
  | 90 => ⟨S4096x56x1, .i1⟩
  | 91 => ⟨S4096x56x1, .i1⟩
  | 92 => ⟨S_, .i1⟩
  | 93 => ⟨S4096x56, .i1⟩
  | 94 => ⟨S4096x56x112, .f32⟩
  | 95 => ⟨S4096x56x112, .i1⟩
  | 96 => ⟨S_, .f32⟩
  | 97 => ⟨S4096x56x112, .f32⟩
  | 98 => ⟨S4096x56x112, .f32⟩
  | 99 => ⟨S4096x1x56, .i32⟩
  | 100 => ⟨S_, .i32⟩
  | 101 => ⟨S4096x1x56, .i32⟩
  | 102 => ⟨S4096x1x56, .i1⟩
  | 103 => ⟨S_, .i32⟩
  | 104 => ⟨S4096x1x56, .i32⟩
  | 105 => ⟨S4096x1x56, .i32⟩
  | 106 => ⟨S4096x1x56, .i32⟩
  | 107 => ⟨S4096x56x1, .i32⟩
  | 108 => ⟨S1, .i32⟩
  | 109 => ⟨S_, .i32⟩
  | 110 => ⟨S4096x56x1, .i32⟩
  | 111 => ⟨S4096x56x1, .i1⟩
  | 112 => ⟨S1x1x1, .i32⟩
  | 113 => ⟨S4096x56x1, .i32⟩
  | 114 => ⟨S4096x56x1, .i1⟩
  | 115 => ⟨S4096x56x1, .i1⟩
  | 116 => ⟨S_, .i1⟩
  | 117 => ⟨S4096x56, .i1⟩
  | 118 => ⟨S4096x56x56, .f32⟩
  | 119 => ⟨S4096x56x56, .i1⟩
  | 120 => ⟨S_, .f32⟩
  | 121 => ⟨S4096x56x56, .f32⟩
  | 122 => ⟨S4096x56x56, .f32⟩
  | 123 => ⟨S4096x56x56, .f32⟩
  | 124 => ⟨S_, .f32⟩
  | 125 => ⟨S4096x56, .f32⟩
  | 126 => ⟨S4096x56x1, .f32⟩
  | 127 => ⟨S4096x56x56, .f32⟩
  | _ => ⟨S4096x112x112, .f32⟩

abbrev hbmTy0_1 (i : Nat) : BufTy := match i % 128 with
  | 0 => ⟨S4096x56x56, .f32⟩
  | 1 => ⟨S56x1024, .f32⟩
  | 2 => ⟨S56x32x32, .f32⟩
  | 3 => ⟨S56x32x4096, .f32⟩
  | 4 => ⟨S4096x56x32, .f32⟩
  | 5 => ⟨S1x1x32, .f32⟩
  | 6 => ⟨S4096x56x32, .f32⟩
  | 7 => ⟨S4096x56x32, .f32⟩
  | 8 => ⟨S4096x56x32, .f32⟩
  | 9 => ⟨S4096x56x32, .f32⟩
  | 10 => ⟨S_, .f32⟩
  | 11 => ⟨S4096x56x32, .f32⟩
  | 12 => ⟨S4096x56x32, .f32⟩
  | 13 => ⟨S4096x56x1, .f32⟩
  | 14 => ⟨S1x1x1, .f32⟩
  | 15 => ⟨S4096x56x1, .f32⟩
  | 16 => ⟨S4096x56x1, .f32⟩
  | 17 => ⟨S4096x56, .f32⟩
  | 18 => ⟨S4096x56, .f32⟩
  | 19 => ⟨S4096x56, .f32⟩
  | 20 => ⟨S_, .f32⟩
  | 21 => ⟨S4096x56, .f32⟩
  | 22 => ⟨S4096x56, .f32⟩
  | 23 => ⟨S_, .f32⟩
  | 24 => ⟨S4096x56, .f32⟩
  | 25 => ⟨S4096x56, .f32⟩
  | 26 => ⟨S4096x28, .f32⟩
  | 27 => ⟨S4096x28, .i32⟩
  | 28 => ⟨S4096x28x1, .i32⟩
  | 29 => ⟨S_, .i32⟩
  | 30 => ⟨S4096x28x1, .i32⟩
  | 31 => ⟨S4096x28x1, .i1⟩
  | 32 => ⟨S_, .i32⟩
  | 33 => ⟨S4096x28x1, .i32⟩
  | 34 => ⟨S4096x28x1, .i32⟩
  | 35 => ⟨S4096x28x1, .i32⟩
  | 36 => ⟨S1, .i32⟩
  | 37 => ⟨S_, .i32⟩
  | 38 => ⟨S4096x28x1, .i32⟩
  | 39 => ⟨S4096x28x1, .i1⟩
  | 40 => ⟨S1x1x1, .i32⟩
  | 41 => ⟨S4096x28x1, .i32⟩
  | 42 => ⟨S4096x28x1, .i1⟩
  | 43 => ⟨S4096x28x1, .i1⟩
  | 44 => ⟨S_, .i1⟩
  | 45 => ⟨S4096x28, .i1⟩
  | 46 => ⟨S4096x28x32, .f32⟩
  | 47 => ⟨S4096x28x32, .i1⟩
  | 48 => ⟨S_, .f32⟩
  | 49 => ⟨S4096x28x32, .f32⟩
  | 50 => ⟨S4096x28x32, .f32⟩
  | 51 => ⟨S4096x28x1, .f32⟩
  | 52 => ⟨S4096x28x32, .f32⟩
  | 53 => ⟨S4096x28x32, .f32⟩
  | 54 => ⟨S4096x28x1, .i32⟩
  | 55 => ⟨S_, .i32⟩
  | 56 => ⟨S4096x28x1, .i32⟩
  | 57 => ⟨S4096x28x1, .i1⟩
  | 58 => ⟨S_, .i32⟩
  | 59 => ⟨S4096x28x1, .i32⟩
  | 60 => ⟨S4096x28x1, .i32⟩
  | 61 => ⟨S4096x28x1, .i32⟩
  | 62 => ⟨S1, .i32⟩
  | 63 => ⟨S_, .i32⟩
  | 64 => ⟨S4096x28x1, .i32⟩
  | 65 => ⟨S4096x28x1, .i1⟩
  | 66 => ⟨S1x1x1, .i32⟩
  | 67 => ⟨S4096x28x1, .i32⟩
  | 68 => ⟨S4096x28x1, .i1⟩
  | 69 => ⟨S4096x28x1, .i1⟩
  | 70 => ⟨S_, .i1⟩
  | 71 => ⟨S4096x28, .i1⟩
  | 72 => ⟨S4096x28x56, .f32⟩
  | 73 => ⟨S4096x28x56, .i1⟩
  | 74 => ⟨S_, .f32⟩
  | 75 => ⟨S4096x28x56, .f32⟩
  | 76 => ⟨S4096x28x56, .f32⟩
  | 77 => ⟨S4096x1x28, .i32⟩
  | 78 => ⟨S_, .i32⟩
  | 79 => ⟨S4096x1x28, .i32⟩
  | 80 => ⟨S4096x1x28, .i1⟩
  | 81 => ⟨S_, .i32⟩
  | 82 => ⟨S4096x1x28, .i32⟩
  | 83 => ⟨S4096x1x28, .i32⟩
  | 84 => ⟨S4096x1x28, .i32⟩
  | 85 => ⟨S4096x28x1, .i32⟩
  | 86 => ⟨S1, .i32⟩
  | 87 => ⟨S_, .i32⟩
  | 88 => ⟨S4096x28x1, .i32⟩
  | 89 => ⟨S4096x28x1, .i1⟩
  | 90 => ⟨S1x1x1, .i32⟩
  | 91 => ⟨S4096x28x1, .i32⟩
  | 92 => ⟨S4096x28x1, .i1⟩
  | 93 => ⟨S4096x28x1, .i1⟩
  | 94 => ⟨S_, .i1⟩
  | 95 => ⟨S4096x28, .i1⟩
  | 96 => ⟨S4096x28x28, .f32⟩
  | 97 => ⟨S4096x28x28, .i1⟩
  | 98 => ⟨S_, .f32⟩
  | 99 => ⟨S4096x28x28, .f32⟩
  | 100 => ⟨S4096x28x28, .f32⟩
  | 101 => ⟨S4096x28x28, .f32⟩
  | 102 => ⟨S_, .f32⟩
  | 103 => ⟨S4096x28, .f32⟩
  | 104 => ⟨S4096x28x1, .f32⟩
  | 105 => ⟨S4096x28x28, .f32⟩
  | 106 => ⟨S4096x28x28, .f32⟩
  | 107 => ⟨S_, .f32⟩
  | 108 => ⟨S4096x32, .f32⟩
  | 109 => ⟨S_, .f32⟩
  | 110 => ⟨S4096x32, .f32⟩
  | 111 => ⟨S4096x32, .f32⟩
  | 112 => ⟨S4096x16, .f32⟩
  | 113 => ⟨S1x16, .f32⟩
  | 114 => ⟨S4096x16, .f32⟩
  | 115 => ⟨S4096x16, .f32⟩
  | 116 => ⟨S_, .f32⟩
  | 117 => ⟨S4096x16, .f32⟩
  | 118 => ⟨S4096x16, .f32⟩
  | 119 => ⟨S4096x1, .f32⟩
  | 120 => ⟨S1x1, .f32⟩
  | 121 => ⟨S4096x1, .f32⟩
  | 122 => ⟨S4096x1, .f32⟩
  | _ => ⟨S4096x112x112, .f32⟩

abbrev hbmTy (i : Nat) : BufTy := match i / 128 with
  | 0 => hbmTy0_0 i
  | 1 => hbmTy0_1 i
  | _ => ⟨S4096x112x112, .f32⟩

abbrev bufTy : (tb : Table) → Fin (tcTables nBuf tb) → BufTy
  | .hbm, ⟨i, _⟩ => hbmTy i
  | _, _ => ⟨S4096x112x112, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_c : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_call0_cst : Ref sig .tc := ⟨.hbm, 32, rfl⟩
abbrev main_call0_v0 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst : Ref sig .tc := ⟨.hbm, 42, rfl⟩
abbrev main_v24 : Ref sig .tc := ⟨.hbm, 43, rfl⟩
abbrev main_v25 : Ref sig .tc := ⟨.hbm, 44, rfl⟩
abbrev main_cst_0 : Ref sig .tc := ⟨.hbm, 45, rfl⟩
abbrev main_v26 : Ref sig .tc := ⟨.hbm, 46, rfl⟩
abbrev main_v27 : Ref sig .tc := ⟨.hbm, 47, rfl⟩
abbrev main_values : Ref sig .tc := ⟨.hbm, 48, rfl⟩
abbrev main_indices : Ref sig .tc := ⟨.hbm, 49, rfl⟩
abbrev main_v28 : Ref sig .tc := ⟨.hbm, 50, rfl⟩
abbrev main_call1_c : Ref sig .tc := ⟨.hbm, 51, rfl⟩
abbrev main_call1_v0 : Ref sig .tc := ⟨.hbm, 52, rfl⟩
abbrev main_call1_v1 : Ref sig .tc := ⟨.hbm, 53, rfl⟩
abbrev main_call1_c_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_c_1 : Ref sig .tc := ⟨.hbm, 58, rfl⟩
abbrev main_call1_c_2 : Ref sig .tc := ⟨.hbm, 59, rfl⟩
abbrev main_call1_v5 : Ref sig .tc := ⟨.hbm, 60, rfl⟩
abbrev main_call1_v6 : Ref sig .tc := ⟨.hbm, 61, rfl⟩
abbrev main_call1_v7 : Ref sig .tc := ⟨.hbm, 62, rfl⟩
abbrev main_call1_v8 : Ref sig .tc := ⟨.hbm, 63, rfl⟩
abbrev main_call1_v9 : Ref sig .tc := ⟨.hbm, 64, rfl⟩
abbrev main_call1_v10 : Ref sig .tc := ⟨.hbm, 65, rfl⟩
abbrev main_call1_c_3 : Ref sig .tc := ⟨.hbm, 66, rfl⟩
abbrev main_call1_v11 : Ref sig .tc := ⟨.hbm, 67, rfl⟩
abbrev main_call1_v12 : Ref sig .tc := ⟨.hbm, 68, rfl⟩
abbrev main_call1_v13 : Ref sig .tc := ⟨.hbm, 69, rfl⟩
abbrev main_call1_cst : Ref sig .tc := ⟨.hbm, 70, rfl⟩
abbrev main_call1_v14 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_call2_c : Ref sig .tc := ⟨.hbm, 77, rfl⟩
abbrev main_call2_v0 : Ref sig .tc := ⟨.hbm, 78, rfl⟩
abbrev main_call2_v1 : Ref sig .tc := ⟨.hbm, 79, rfl⟩
abbrev main_call2_c_0 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_call2_c_1 : Ref sig .tc := ⟨.hbm, 84, rfl⟩
abbrev main_call2_c_2 : Ref sig .tc := ⟨.hbm, 85, rfl⟩
abbrev main_call2_v5 : Ref sig .tc := ⟨.hbm, 86, rfl⟩
abbrev main_call2_v6 : Ref sig .tc := ⟨.hbm, 87, rfl⟩
abbrev main_call2_v7 : Ref sig .tc := ⟨.hbm, 88, rfl⟩
abbrev main_call2_v8 : Ref sig .tc := ⟨.hbm, 89, rfl⟩
abbrev main_call2_v9 : Ref sig .tc := ⟨.hbm, 90, rfl⟩
abbrev main_call2_v10 : Ref sig .tc := ⟨.hbm, 91, rfl⟩
abbrev main_call2_c_3 : Ref sig .tc := ⟨.hbm, 92, rfl⟩
abbrev main_call2_v11 : Ref sig .tc := ⟨.hbm, 93, rfl⟩
abbrev main_call2_v12 : Ref sig .tc := ⟨.hbm, 94, rfl⟩
abbrev main_call2_v13 : Ref sig .tc := ⟨.hbm, 95, rfl⟩
abbrev main_call2_cst : Ref sig .tc := ⟨.hbm, 96, rfl⟩
abbrev main_call2_v14 : Ref sig .tc := ⟨.hbm, 97, rfl⟩
abbrev main_v34 : Ref sig .tc := ⟨.hbm, 98, rfl⟩
abbrev main_v35 : Ref sig .tc := ⟨.hbm, 99, rfl⟩
abbrev main_call3_c : Ref sig .tc := ⟨.hbm, 100, rfl⟩
abbrev main_call3_v0 : Ref sig .tc := ⟨.hbm, 101, rfl⟩
abbrev main_call3_v1 : Ref sig .tc := ⟨.hbm, 102, rfl⟩
abbrev main_call3_c_0 : Ref sig .tc := ⟨.hbm, 103, rfl⟩
abbrev main_call3_v2 : Ref sig .tc := ⟨.hbm, 104, rfl⟩
abbrev main_call3_v3 : Ref sig .tc := ⟨.hbm, 105, rfl⟩
abbrev main_call3_v4 : Ref sig .tc := ⟨.hbm, 106, rfl⟩
abbrev main_call3_v5 : Ref sig .tc := ⟨.hbm, 107, rfl⟩
abbrev main_call3_c_1 : Ref sig .tc := ⟨.hbm, 108, rfl⟩
abbrev main_call3_c_2 : Ref sig .tc := ⟨.hbm, 109, rfl⟩
abbrev main_call3_v6 : Ref sig .tc := ⟨.hbm, 110, rfl⟩
abbrev main_call3_v7 : Ref sig .tc := ⟨.hbm, 111, rfl⟩
abbrev main_call3_v8 : Ref sig .tc := ⟨.hbm, 112, rfl⟩
abbrev main_call3_v9 : Ref sig .tc := ⟨.hbm, 113, rfl⟩
abbrev main_call3_v10 : Ref sig .tc := ⟨.hbm, 114, rfl⟩
abbrev main_call3_v11 : Ref sig .tc := ⟨.hbm, 115, rfl⟩
abbrev main_call3_c_3 : Ref sig .tc := ⟨.hbm, 116, rfl⟩
abbrev main_call3_v12 : Ref sig .tc := ⟨.hbm, 117, rfl⟩
abbrev main_call3_v13 : Ref sig .tc := ⟨.hbm, 118, rfl⟩
abbrev main_call3_v14 : Ref sig .tc := ⟨.hbm, 119, rfl⟩
abbrev main_call3_cst : Ref sig .tc := ⟨.hbm, 120, rfl⟩
abbrev main_call3_v15 : Ref sig .tc := ⟨.hbm, 121, rfl⟩
abbrev main_v36 : Ref sig .tc := ⟨.hbm, 122, rfl⟩
abbrev main_v37 : Ref sig .tc := ⟨.hbm, 123, rfl⟩
abbrev main_cst_1 : Ref sig .tc := ⟨.hbm, 124, rfl⟩
abbrev main_v38 : Ref sig .tc := ⟨.hbm, 125, rfl⟩
abbrev main_v39 : Ref sig .tc := ⟨.hbm, 126, rfl⟩
abbrev main_v40 : Ref sig .tc := ⟨.hbm, 127, rfl⟩
abbrev main_v41 : Ref sig .tc := ⟨.hbm, 128, rfl⟩
abbrev main_v42 : Ref sig .tc := ⟨.hbm, 129, rfl⟩
abbrev main_v43 : Ref sig .tc := ⟨.hbm, 130, rfl⟩
abbrev main_v44 : Ref sig .tc := ⟨.hbm, 131, rfl⟩
abbrev main_v45 : Ref sig .tc := ⟨.hbm, 132, rfl⟩
abbrev main_v46 : Ref sig .tc := ⟨.hbm, 133, rfl⟩
abbrev main_v47 : Ref sig .tc := ⟨.hbm, 134, rfl⟩
abbrev main_v48 : Ref sig .tc := ⟨.hbm, 135, rfl⟩
abbrev main_v49 : Ref sig .tc := ⟨.hbm, 136, rfl⟩
abbrev main_v50 : Ref sig .tc := ⟨.hbm, 137, rfl⟩
abbrev main_call4_cst : Ref sig .tc := ⟨.hbm, 138, rfl⟩
abbrev main_call4_v0 : Ref sig .tc := ⟨.hbm, 139, rfl⟩
abbrev main_v51 : Ref sig .tc := ⟨.hbm, 140, rfl⟩
abbrev main_v52 : Ref sig .tc := ⟨.hbm, 141, rfl⟩
abbrev main_v53 : Ref sig .tc := ⟨.hbm, 142, rfl⟩
abbrev main_v54 : Ref sig .tc := ⟨.hbm, 143, rfl⟩
abbrev main_v55 : Ref sig .tc := ⟨.hbm, 144, rfl⟩
abbrev main_v56 : Ref sig .tc := ⟨.hbm, 145, rfl⟩
abbrev main_v57 : Ref sig .tc := ⟨.hbm, 146, rfl⟩
abbrev main_v58 : Ref sig .tc := ⟨.hbm, 147, rfl⟩
abbrev main_cst_2 : Ref sig .tc := ⟨.hbm, 148, rfl⟩
abbrev main_v59 : Ref sig .tc := ⟨.hbm, 149, rfl⟩
abbrev main_v60 : Ref sig .tc := ⟨.hbm, 150, rfl⟩
abbrev main_cst_3 : Ref sig .tc := ⟨.hbm, 151, rfl⟩
abbrev main_v61 : Ref sig .tc := ⟨.hbm, 152, rfl⟩
abbrev main_v62 : Ref sig .tc := ⟨.hbm, 153, rfl⟩
abbrev main_values_4 : Ref sig .tc := ⟨.hbm, 154, rfl⟩
abbrev main_indices_5 : Ref sig .tc := ⟨.hbm, 155, rfl⟩
abbrev main_v63 : Ref sig .tc := ⟨.hbm, 156, rfl⟩
abbrev main_call5_c : Ref sig .tc := ⟨.hbm, 157, rfl⟩
abbrev main_call5_v0 : Ref sig .tc := ⟨.hbm, 158, rfl⟩
abbrev main_call5_v1 : Ref sig .tc := ⟨.hbm, 159, rfl⟩
abbrev main_call5_c_0 : Ref sig .tc := ⟨.hbm, 160, rfl⟩
abbrev main_call5_v2 : Ref sig .tc := ⟨.hbm, 161, rfl⟩
abbrev main_call5_v3 : Ref sig .tc := ⟨.hbm, 162, rfl⟩
abbrev main_call5_v4 : Ref sig .tc := ⟨.hbm, 163, rfl⟩
abbrev main_call5_c_1 : Ref sig .tc := ⟨.hbm, 164, rfl⟩
abbrev main_call5_c_2 : Ref sig .tc := ⟨.hbm, 165, rfl⟩
abbrev main_call5_v5 : Ref sig .tc := ⟨.hbm, 166, rfl⟩
abbrev main_call5_v6 : Ref sig .tc := ⟨.hbm, 167, rfl⟩
abbrev main_call5_v7 : Ref sig .tc := ⟨.hbm, 168, rfl⟩
abbrev main_call5_v8 : Ref sig .tc := ⟨.hbm, 169, rfl⟩
abbrev main_call5_v9 : Ref sig .tc := ⟨.hbm, 170, rfl⟩
abbrev main_call5_v10 : Ref sig .tc := ⟨.hbm, 171, rfl⟩
abbrev main_call5_c_3 : Ref sig .tc := ⟨.hbm, 172, rfl⟩
abbrev main_call5_v11 : Ref sig .tc := ⟨.hbm, 173, rfl⟩
abbrev main_call5_v12 : Ref sig .tc := ⟨.hbm, 174, rfl⟩
abbrev main_call5_v13 : Ref sig .tc := ⟨.hbm, 175, rfl⟩
abbrev main_call5_cst : Ref sig .tc := ⟨.hbm, 176, rfl⟩
abbrev main_call5_v14 : Ref sig .tc := ⟨.hbm, 177, rfl⟩
abbrev main_v64 : Ref sig .tc := ⟨.hbm, 178, rfl⟩
abbrev main_v65 : Ref sig .tc := ⟨.hbm, 179, rfl⟩
abbrev main_v66 : Ref sig .tc := ⟨.hbm, 180, rfl⟩
abbrev main_v67 : Ref sig .tc := ⟨.hbm, 181, rfl⟩
abbrev main_v68 : Ref sig .tc := ⟨.hbm, 182, rfl⟩
abbrev main_call6_c : Ref sig .tc := ⟨.hbm, 183, rfl⟩
abbrev main_call6_v0 : Ref sig .tc := ⟨.hbm, 184, rfl⟩
abbrev main_call6_v1 : Ref sig .tc := ⟨.hbm, 185, rfl⟩
abbrev main_call6_c_0 : Ref sig .tc := ⟨.hbm, 186, rfl⟩
abbrev main_call6_v2 : Ref sig .tc := ⟨.hbm, 187, rfl⟩
abbrev main_call6_v3 : Ref sig .tc := ⟨.hbm, 188, rfl⟩
abbrev main_call6_v4 : Ref sig .tc := ⟨.hbm, 189, rfl⟩
abbrev main_call6_c_1 : Ref sig .tc := ⟨.hbm, 190, rfl⟩
abbrev main_call6_c_2 : Ref sig .tc := ⟨.hbm, 191, rfl⟩
abbrev main_call6_v5 : Ref sig .tc := ⟨.hbm, 192, rfl⟩
abbrev main_call6_v6 : Ref sig .tc := ⟨.hbm, 193, rfl⟩
abbrev main_call6_v7 : Ref sig .tc := ⟨.hbm, 194, rfl⟩
abbrev main_call6_v8 : Ref sig .tc := ⟨.hbm, 195, rfl⟩
abbrev main_call6_v9 : Ref sig .tc := ⟨.hbm, 196, rfl⟩
abbrev main_call6_v10 : Ref sig .tc := ⟨.hbm, 197, rfl⟩
abbrev main_call6_c_3 : Ref sig .tc := ⟨.hbm, 198, rfl⟩
abbrev main_call6_v11 : Ref sig .tc := ⟨.hbm, 199, rfl⟩
abbrev main_call6_v12 : Ref sig .tc := ⟨.hbm, 200, rfl⟩
abbrev main_call6_v13 : Ref sig .tc := ⟨.hbm, 201, rfl⟩
abbrev main_call6_cst : Ref sig .tc := ⟨.hbm, 202, rfl⟩
abbrev main_call6_v14 : Ref sig .tc := ⟨.hbm, 203, rfl⟩
abbrev main_v69 : Ref sig .tc := ⟨.hbm, 204, rfl⟩
abbrev main_v70 : Ref sig .tc := ⟨.hbm, 205, rfl⟩
abbrev main_call7_c : Ref sig .tc := ⟨.hbm, 206, rfl⟩
abbrev main_call7_v0 : Ref sig .tc := ⟨.hbm, 207, rfl⟩
abbrev main_call7_v1 : Ref sig .tc := ⟨.hbm, 208, rfl⟩
abbrev main_call7_c_0 : Ref sig .tc := ⟨.hbm, 209, rfl⟩
abbrev main_call7_v2 : Ref sig .tc := ⟨.hbm, 210, rfl⟩
abbrev main_call7_v3 : Ref sig .tc := ⟨.hbm, 211, rfl⟩
abbrev main_call7_v4 : Ref sig .tc := ⟨.hbm, 212, rfl⟩
abbrev main_call7_v5 : Ref sig .tc := ⟨.hbm, 213, rfl⟩
abbrev main_call7_c_1 : Ref sig .tc := ⟨.hbm, 214, rfl⟩
abbrev main_call7_c_2 : Ref sig .tc := ⟨.hbm, 215, rfl⟩
abbrev main_call7_v6 : Ref sig .tc := ⟨.hbm, 216, rfl⟩
abbrev main_call7_v7 : Ref sig .tc := ⟨.hbm, 217, rfl⟩
abbrev main_call7_v8 : Ref sig .tc := ⟨.hbm, 218, rfl⟩
abbrev main_call7_v9 : Ref sig .tc := ⟨.hbm, 219, rfl⟩
abbrev main_call7_v10 : Ref sig .tc := ⟨.hbm, 220, rfl⟩
abbrev main_call7_v11 : Ref sig .tc := ⟨.hbm, 221, rfl⟩
abbrev main_call7_c_3 : Ref sig .tc := ⟨.hbm, 222, rfl⟩
abbrev main_call7_v12 : Ref sig .tc := ⟨.hbm, 223, rfl⟩
abbrev main_call7_v13 : Ref sig .tc := ⟨.hbm, 224, rfl⟩
abbrev main_call7_v14 : Ref sig .tc := ⟨.hbm, 225, rfl⟩
abbrev main_call7_cst : Ref sig .tc := ⟨.hbm, 226, rfl⟩
abbrev main_call7_v15 : Ref sig .tc := ⟨.hbm, 227, rfl⟩
abbrev main_v71 : Ref sig .tc := ⟨.hbm, 228, rfl⟩
abbrev main_v72 : Ref sig .tc := ⟨.hbm, 229, rfl⟩
abbrev main_cst_6 : Ref sig .tc := ⟨.hbm, 230, rfl⟩
abbrev main_v73 : Ref sig .tc := ⟨.hbm, 231, rfl⟩
abbrev main_v74 : Ref sig .tc := ⟨.hbm, 232, rfl⟩
abbrev main_v75 : Ref sig .tc := ⟨.hbm, 233, rfl⟩
abbrev main_v76 : Ref sig .tc := ⟨.hbm, 234, rfl⟩
abbrev main_cst_7 : Ref sig .tc := ⟨.hbm, 235, rfl⟩
abbrev main_v77 : Ref sig .tc := ⟨.hbm, 236, rfl⟩
abbrev main_cst_8 : Ref sig .tc := ⟨.hbm, 237, rfl⟩
abbrev main_v78 : Ref sig .tc := ⟨.hbm, 238, rfl⟩
abbrev main_v79 : Ref sig .tc := ⟨.hbm, 239, rfl⟩
abbrev main_v80 : Ref sig .tc := ⟨.hbm, 240, rfl⟩
abbrev main_v81 : Ref sig .tc := ⟨.hbm, 241, rfl⟩
abbrev main_v82 : Ref sig .tc := ⟨.hbm, 242, rfl⟩
abbrev main_v83 : Ref sig .tc := ⟨.hbm, 243, rfl⟩
abbrev main_call8_cst : Ref sig .tc := ⟨.hbm, 244, rfl⟩
abbrev main_call8_v0 : Ref sig .tc := ⟨.hbm, 245, rfl⟩
abbrev main_v84 : Ref sig .tc := ⟨.hbm, 246, rfl⟩
abbrev main_v85 : Ref sig .tc := ⟨.hbm, 247, rfl⟩
abbrev main_v86 : Ref sig .tc := ⟨.hbm, 248, rfl⟩
abbrev main_v87 : Ref sig .tc := ⟨.hbm, 249, rfl⟩
abbrev main_v88 : Ref sig .tc := ⟨.hbm, 250, rfl⟩

abbrev nD : Nat := 1
abbrev τ : Topo := Topo.v7x

variable {F : FTy → Type} [FloatOps F]
-- ==== Proof.Blocks.lean ====
/- The blocks that the two regions read, as their arrays: all of an array for every window but the samples', whose block at a grid
   point is sixteen samples' rows. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Body

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b)) (c : Dev nD)

/-- A block at number zero on every axis starts at zero. -/
theorem starts_zero {n : Nat} {f : Fin n → Nat} (size : Fin n → Nat) (h : ∀ a, f a = 0) : (fun a => f a * size a) = fun _ => 0 :=
  funext fun a => by rw [h a, Nat.zero_mul]

/-- and ends at the array's end. -/
theorem ends_inside {n : Nat} {f : Fin n → Nat} (size : Fin n → Nat) (h : ∀ a, f a = 0) (a : Fin n) : f a * size a + size a ≤ size a := by
  rw [h a, Nat.zero_mul, Nat.zero_add]

/-! Region 0's whole-array windows. -/

/-- The block of the first layer's node factors is all of its array. -/
theorem block0_0 (t : Fin cfg0.N) : (iblk0 V c 0 t : Vec Ideal S112x8 .f32) = V c main_arg1 :=
  Memref.read_access_unit_zero (Elt Ideal) main_arg1 (starts_zero (f := win0_0.index t) main_arg1.ty.shape.size fun a => by fin_cases a <;> rfl)
    (ends_inside (f := win0_0.index t) main_arg1.ty.shape.size fun a => by fin_cases a <;> rfl) (V c main_arg1)

/-- The block of the first layer's weight factors is all of its array. -/
theorem block0_1 (t : Fin cfg0.N) : (iblk0 V c 1 t : Vec Ideal S8x112x32 .f32) = V c main_v1 :=
  Memref.read_access_unit_zero (Elt Ideal) main_v1 (starts_zero (f := win0_1.index t) main_v1.ty.shape.size fun a => by fin_cases a <;> rfl)
    (ends_inside (f := win0_1.index t) main_v1.ty.shape.size fun a => by fin_cases a <;> rfl) (V c main_v1)

/-- The block of the first bias is all of its array. -/
theorem block0_2 (t : Fin cfg0.N) : (iblk0 V c 2 t : Vec Ideal S1x32 .f32) = V c main_v2 :=
  Memref.read_access_unit_zero (Elt Ideal) main_v2 (starts_zero (f := win0_2.index t) main_v2.ty.shape.size fun a => by fin_cases a <;> rfl)
    (ends_inside (f := win0_2.index t) main_v2.ty.shape.size fun a => by fin_cases a <;> rfl) (V c main_v2)

/-- The block of the second layer's node factors is all of its array. -/
theorem block0_3 (t : Fin cfg0.N) : (iblk0 V c 3 t : Vec Ideal S56x8 .f32) = V c main_arg6 :=
  Memref.read_access_unit_zero (Elt Ideal) main_arg6 (starts_zero (f := win0_3.index t) main_arg6.ty.shape.size fun a => by fin_cases a <;> rfl)
    (ends_inside (f := win0_3.index t) main_arg6.ty.shape.size fun a => by fin_cases a <;> rfl) (V c main_arg6)

/-- The block of the second layer's weight factors is all of its array. -/
theorem block0_4 (t : Fin cfg0.N) : (iblk0 V c 4 t : Vec Ideal S8x1024 .f32) = V c main_arg7 :=
  Memref.read_access_unit_zero (Elt Ideal) main_arg7 (starts_zero (f := win0_4.index t) main_arg7.ty.shape.size fun a => by fin_cases a <;> rfl)
    (ends_inside (f := win0_4.index t) main_arg7.ty.shape.size fun a => by fin_cases a <;> rfl) (V c main_arg7)

/-! Region 1's whole-array windows. -/

/-- The block of the first layer's rows is all of its array. -/
theorem block1_1 (t : Fin cfg1.N) : (iblk1 V c 1 t : Vec Ideal S112x32 .f32) = V c main_v3_0 :=
  Memref.read_access_unit_zero (Elt Ideal) main_v3_0 (starts_zero (f := win1_1.index t) main_v3_0.ty.shape.size fun a => by fin_cases a <;> rfl)
    (ends_inside (f := win1_1.index t) main_v3_0.ty.shape.size fun a => by fin_cases a <;> rfl) (V c main_v3_0)

/-- The block of the second layer's weights is all of its array. -/
theorem block1_2 (t : Fin cfg1.N) : (iblk1 V c 2 t : Vec Ideal S56x32x32 .f32) = V c main_v4 :=
  Memref.read_access_unit_zero (Elt Ideal) main_v4 (starts_zero (f := win1_2.index t) main_v4.ty.shape.size fun a => by fin_cases a <;> rfl)
    (ends_inside (f := win1_2.index t) main_v4.ty.shape.size fun a => by fin_cases a <;> rfl) (V c main_v4)

/-- The block of the second bias is all of its array. -/
theorem block1_3 (t : Fin cfg1.N) : (iblk1 V c 3 t : Vec Ideal S1x32 .f32) = V c main_v5 :=
  Memref.read_access_unit_zero (Elt Ideal) main_v5 (starts_zero (f := win1_3.index t) main_v5.ty.shape.size fun a => by fin_cases a <;> rfl)
    (ends_inside (f := win1_3.index t) main_v5.ty.shape.size fun a => by fin_cases a <;> rfl) (V c main_v5)

/-- The block of the first projection is all of its array. -/
theorem block1_4 (t : Fin cfg1.N) : (iblk1 V c 4 t : Vec Ideal S32x1 .f32) = V c main_arg4 :=
  Memref.read_access_unit_zero (Elt Ideal) main_arg4 (starts_zero (f := win1_4.index t) main_arg4.ty.shape.size fun a => by fin_cases a <;> rfl)
    (ends_inside (f := win1_4.index t) main_arg4.ty.shape.size fun a => by fin_cases a <;> rfl) (V c main_arg4)

/-- The block of the first projection's bias is all of its array. -/
theorem block1_5 (t : Fin cfg1.N) : (iblk1 V c 5 t : Vec Ideal S1x1 .f32) = V c main_v6 :=
  Memref.read_access_unit_zero (Elt Ideal) main_v6 (starts_zero (f := win1_5.index t) main_v6.ty.shape.size fun a => by fin_cases a <;> rfl)
    (ends_inside (f := win1_5.index t) main_v6.ty.shape.size fun a => by fin_cases a <;> rfl) (V c main_v6)

/-- The block of the second projection is all of its array. -/
theorem block1_6 (t : Fin cfg1.N) : (iblk1 V c 6 t : Vec Ideal S32x1 .f32) = V c main_arg9 :=
  Memref.read_access_unit_zero (Elt Ideal) main_arg9 (starts_zero (f := win1_6.index t) main_arg9.ty.shape.size fun a => by fin_cases a <;> rfl)
    (ends_inside (f := win1_6.index t) main_arg9.ty.shape.size fun a => by fin_cases a <;> rfl) (V c main_arg9)

/-- The block of the second projection's bias is all of its array. -/
theorem block1_7 (t : Fin cfg1.N) : (iblk1 V c 7 t : Vec Ideal S1x1 .f32) = V c main_v7 :=
  Memref.read_access_unit_zero (Elt Ideal) main_v7 (starts_zero (f := win1_7.index t) main_v7.ty.shape.size fun a => by fin_cases a <;> rfl)
    (ends_inside (f := win1_7.index t) main_v7.ty.shape.size fun a => by fin_cases a <;> rfl) (V c main_v7)

/-- The block of the first dense weights is all of its array. -/
theorem block1_8 (t : Fin cfg1.N) : (iblk1 V c 8 t : Vec Ideal S32x16 .f32) = V c main_arg11 :=
  Memref.read_access_unit_zero (Elt Ideal) main_arg11 (starts_zero (f := win1_8.index t) main_arg11.ty.shape.size fun a => by fin_cases a <;> rfl)
    (ends_inside (f := win1_8.index t) main_arg11.ty.shape.size fun a => by fin_cases a <;> rfl) (V c main_arg11)

/-- The block of the first dense bias is all of its array. -/
theorem block1_9 (t : Fin cfg1.N) : (iblk1 V c 9 t : Vec Ideal S1x16 .f32) = V c main_v8 :=
  Memref.read_access_unit_zero (Elt Ideal) main_v8 (starts_zero (f := win1_9.index t) main_v8.ty.shape.size fun a => by fin_cases a <;> rfl)
    (ends_inside (f := win1_9.index t) main_v8.ty.shape.size fun a => by fin_cases a <;> rfl) (V c main_v8)

/-- The block of the second dense weights is all of its array. -/
theorem block1_10 (t : Fin cfg1.N) : (iblk1 V c 10 t : Vec Ideal S16x1 .f32) = V c main_arg13 :=
  Memref.read_access_unit_zero (Elt Ideal) main_arg13 (starts_zero (f := win1_10.index t) main_arg13.ty.shape.size fun a => by fin_cases a <;> rfl)
    (ends_inside (f := win1_10.index t) main_arg13.ty.shape.size fun a => by fin_cases a <;> rfl) (V c main_arg13)

/-- The block of the second dense bias is all of its array. -/
theorem block1_11 (t : Fin cfg1.N) : (iblk1 V c 11 t : Vec Ideal S1x1 .f32) = V c main_v9 :=
  Memref.read_access_unit_zero (Elt Ideal) main_v9 (starts_zero (f := win1_11.index t) main_v9.ty.shape.size fun a => by fin_cases a <;> rfl)
    (ends_inside (f := win1_11.index t) main_v9.ty.shape.size fun a => by fin_cases a <;> rfl) (V c main_v9)

/-- The samples' block number. -/
theorem samples_index (t : Fin cfg1.N) : win1_0.index t = ![t.val, 0] := by
  have hN : t.val < 256 := t.isLt.trans_eq (N_1 : cfg1.N = 256)
  have h : (grid1.coords t 0).val = t.val := by
    rw [Pipeline.Grid.coords_val t 0 (S := 1) (B := 256) (by decide) (by decide), Nat.div_one, Nat.mod_eq_of_lt hN]
  show cc1_transform_0 (grid1.coords t) = _
  unfold cc1_transform_0
  dsimp only
  rw [h, BitVec.toNat_ofNat, Nat.mod_eq_of_lt (by omega)]
  rfl

/-- The samples' block at a grid point. -/
theorem block1_0 (t : Fin cfg1.N) (r : Fin 1792) (j : Fin 112) : (iblk1 V c 0 t : Vec Ideal S1792x112 .f32) (ix2 r j) =
    V c main_v0 (ix2 ⟨t.val * 1792 + r.val, by have := t.isLt; have : cfg1.N = 256 := N_1; omega⟩ j) := by
  unfold iblk1
  refine congrArg (V c main_v0) (funext fun a => Fin.ext ?_)
  fin_cases a
  · show win1_0.index t 0 * 1792 + 1 * r.val = _
    rw [samples_index]
    show t.val * 1792 + 1 * r.val = t.val * 1792 + r.val
    omega
  · show win1_0.index t 1 * 112 + 1 * j.val = _
    rw [samples_index]
    show 0 * 112 + 1 * j.val = j.val
    omega

end Cert.KernelIdeal.Body

end
-- ==== Proof.Body.lean ====
/- One grid step of the second region, as functions of the sample: the step handles sixteen samples, and what it
   computes for sample `s` is the same function of the sample's rows for every `s`. These are the functions. -/
module

public import proofs.«01_k».proof.Proof.Gen.KernelIdeal.Frame

@[expose] public section

set_option maxRecDepth 16384

noncomputable section

namespace Cert.KernelIdeal.Body

open Idealize.ShloMosaic Idealize.ShloMosaic.TcCoe Idealize.SL.Sem Cert.KernelIdeal Cert.KernelIdeal.Gen

variable {F : FTy → Type} [FloatOps F]

/-- The rows of sample `s` lie in the block of sixteen samples. -/
theorem inbA (s : Fin 16) : ∀ a, (![112 * s.val, 0] : Fin 2 → Nat) a + (![112, 112] : Fin 2 → Nat) a ≤ S1792x112.size a := by
  decide +revert

theorem slicesPre (s : Fin 16) : S1792x32.Slices ![112 * s.val, 0] S112x32 := by decide +revert

theorem inbHid (s : Fin 16) : ∀ a, (![0, s.val, 0] : Fin 3 → Nat) a + (![56, 1, 32] : Fin 3 → Nat) a ≤ S56x16x32.size a := by
  decide +revert

theorem inbNode (n : Fin 56) : ∀ a, (![n.val, 0, 0] : Fin 3 → Nat) a + (![1, 16, 32] : Fin 3 → Nat) a ≤ S56x16x32.size a := by
  decide +revert

theorem inbW (n : Fin 56) : ∀ a, (![n.val, 0, 0] : Fin 3 → Nat) a + (![1, 32, 32] : Fin 3 → Nat) a ≤ S56x32x32.size a := by
  decide +revert

theorem inbX (s : Fin 16) : ∀ a, (![56 * s.val, 0] : Fin 2 → Nat) a + (![56, 56] : Fin 2 → Nat) a ≤ S896x56.size a := by
  decide +revert

theorem inbOut (s : Fin 16) : ∀ a, (![s.val, 0] : Fin 2 → Nat) a + (![1, 1] : Fin 2 → Nat) a ≤ S16x1.size a := by
  decide +revert

/-- Sample `s`'s first graph convolution after the rectifier, from the product `pre` of the block's rows with `h`. -/
def conv1 (pre : FVec F S1792x32 .f32) (h : FVec F S112x32 .f32) (s : Fin 16) : FVec F S112x32 .f32 :=
  maximumf (addf (extractStridedSlice S112x32 ![112 * s.val, 0] pre (slicesPre s)) h)
    (broadcast S112x32 (Scalar.ofBits .f32 0x00000000#32))

/-- The nodes' scores: the logistic function of the projection. -/
def score1 (w : Vec F S32x1 .f32) (b : FVec F S1x1 .f32) (h : FVec F S112x32 .f32) : FVec F S112x1 .f32 :=
  logistic (addf (matmul dot_S112x32_S32x1_S112x1_1_0_0_1_n_n none h w (constant S112x1 .f32 0x00000000#32))
    (broadcastTo S112x1 b broadcasts_S1x1_S112x1))

/-- The positions each node's rank is compared with. -/
def positions : IVec S112x56 32 := iota .tc S112x56 32 [1] iota_S112x56_d1_w32

/-- The chosen nodes' numbers, in the order of their ranks. -/
def chosen (sc : FVec F S112x1 .f32) : IVec S1x56 32 := k1_pay13 positions k1_pay9 sc

/-- The chosen nodes' rows times their scores. -/
def pooled (h : FVec F S112x32 .f32) (sc : FVec F S112x1 .f32) : FVec F S56x1x32 .f32 := k1_pay14 positions k1_pay9 h sc

/-- The chosen nodes' adjacency over its row sums. -/
def adjacency (a : FVec F S112x112 .f32) (sc : FVec F S112x1 .f32) : FVec F S56x56 .f32 := k1_pay16 (chosen sc) (k1_pay15 a)

/-- Node `n`'s rows of all sixteen samples times the node's weights. -/
def nodeProduct (h : Vec F S1x16x32 .f32) (w : Vec F S1x32x32 .f32) : FVec F S1x16x32 .f32 := k1_pay134 h w

/-- One sample's result from its pooled rows times the weights, `h`, and its adjacency. -/
def result (b2 : FVec F S1x32 .f32) (w : Vec F S32x1 .f32) (b : FVec F S1x1 .f32) (f1 : Vec F S32x16 .f32) (g1 : FVec F S1x16 .f32)
    (f2 : Vec F S16x1 .f32) (g2 : FVec F S1x1 .f32) (h : Vec F S56x1x32 .f32) (a : Vec F S56x56 .f32) : FVec F S1x1 .f32 :=
  k1_pay204 w b f1 g1 f2 g2 (k1_pay203 b2 h a) (Scalar.ofBits .f32 0x00000000#32)

end Cert.KernelIdeal.Body

end
-- ==== Proof.Pieces.lean ====
/- What one grid step of the second region stores, sample by sample and node by node: the run's lists of stores are
   lists of the functions of Body.lean. -/
module

public import proofs.«01_k».proof.Proof.Body

@[expose] public section

set_option maxRecDepth 16384

noncomputable section

namespace Cert.KernelIdeal.Body

open Idealize.ShloMosaic Idealize.ShloMosaic.TcCoe Idealize.SL.Sem Cert.KernelIdeal Cert.KernelIdeal.Gen

variable {F : FTy → Type} [FloatOps F]
variable (c : Dev nD) (i : grid1.Coords) (arg1 : Memref sig .tc .vmem S1792x112 .f32) (harg1 : arg1.IsWhole)
  (arg2 : Memref sig .tc .vmem S112x32 .f32) (harg2 : arg2.IsWhole) (arg3 : Memref sig .tc .vmem S56x32x32 .f32) (harg3 : arg3.IsWhole)
  (arg4 : Memref sig .tc .vmem S1x32 .f32) (harg4 : arg4.IsWhole) (arg5 : Memref sig .tc .vmem S32x1 .f32) (harg5 : arg5.IsWhole)
  (arg6 : Memref sig .tc .vmem S1x1 .f32) (harg6 : arg6.IsWhole) (arg7 : Memref sig .tc .vmem S32x1 .f32) (harg7 : arg7.IsWhole)
  (arg8 : Memref sig .tc .vmem S1x1 .f32) (harg8 : arg8.IsWhole) (arg9 : Memref sig .tc .vmem S32x16 .f32) (harg9 : arg9.IsWhole)
  (arg10 : Memref sig .tc .vmem S1x16 .f32) (harg10 : arg10.IsWhole) (arg11 : Memref sig .tc .vmem S16x1 .f32) (harg11 : arg11.IsWhole)
  (arg12 : Memref sig .tc .vmem S1x1 .f32) (harg12 : arg12.IsWhole) (arg13 : Memref sig .tc .vmem S16x1 .f32) (harg13 : arg13.IsWhole)
  (arg14 : Memref sig .tc .vmem S56x16x32 .f32) (harg14 : arg14.IsWhole) (arg15 : Memref sig .tc .vmem S56x16x32 .f32)
  (harg15 : arg15.IsWhole) (arg16 : Memref sig .tc .vmem S896x56 .f32) (harg16 : arg16.IsWhole)
  (x0 : Vec F S1792x112 .f32) (x1 : Vec F S112x32 .f32) (x2 : Vec F S56x32x32 .f32) (x3 : Vec F S1x32 .f32) (x4 : Vec F S32x1 .f32)
  (x5 : Vec F S1x1 .f32) (x6 : Vec F S32x1 .f32) (x7 : Vec F S1x1 .f32) (x8 : Vec F S32x16 .f32) (x9 : Vec F S1x16 .f32)
  (x10 : Vec F S16x1 .f32) (x11 : Vec F S1x1 .f32)

/-- The sample's rows as the step loads them. -/
def rowsOf (s : Fin 16) : FVec F S112x112 .f32 :=
  k1_pay10 (View.readAt (Elt F) arg1.view (Rect.unit (s := S1792x112) ![112 * s.val, 0] S112x112.size (inbA s)).toLoadRect (harg1.unread x0))

/-- The sample's first convolution as the step computes it. -/
def convOf (s : Fin 16) : FVec F S112x32 .f32 :=
  conv1 (kernelRun1_A.sl.r_10 c arg1 harg1 arg2 harg2 x0 x1)
    (k1_pay2 (View.readAt (Elt F) arg2.view (Rect.unit (s := S112x32) ![0, 0] S112x32.size inb_S112x32_S112x32_0_0).toLoadRect (harg2.unread x1))) s

/-- The sample's scores as the step computes them. -/
def scoreOf (s : Fin 16) : FVec F S112x1 .f32 :=
  score1 (kernelRun1_A.sl.r_1 c arg5 harg5 x4) (kernelRun1_A.sl.r_2 c arg6 harg6 x5) (convOf c arg1 harg1 arg2 harg2 x0 x1 s)

/-- The family's members from the last to the first, the order in which a run lists its stores. -/
def down {α : Type} : (n : Nat) → (Fin n → α) → List α
  | 0, _ => []
  | n + 1, P => P (Fin.last n) :: down n fun k => P k.castSucc

/-- Sample `s`'s store of its adjacency. -/
def adjacencyPiece (s : Fin 16) : View.Piece (Elt F) S896x56 .f32 :=
  ⟨Rect.unit (s := S896x56) ![56 * s.val, 0] ![56, 56] (inbX s),
    adjacency (rowsOf arg1 harg1 x0 s) (scoreOf c arg1 harg1 arg2 harg2 arg5 harg5 arg6 harg6 x0 x1 x4 x5 s)⟩

/-- Sample `s`'s store of its pooled rows. -/
def pooledPiece (s : Fin 16) : View.Piece (Elt F) S56x16x32 .f32 :=
  ⟨Rect.unit (s := S56x16x32) ![0, s.val, 0] ![56, 1, 32] (inbHid s),
    pooled (convOf c arg1 harg1 arg2 harg2 x0 x1 s) (scoreOf c arg1 harg1 arg2 harg2 arg5 harg5 arg6 harg6 x0 x1 x4 x5 s)⟩

/-- The adjacencies' stores. -/
theorem adjacency_pieces : kernelRun1_A.sl.HS2_16 c arg1 harg1 arg2 harg2 arg5 harg5 arg6 harg6 x0 x1 x4 x5 =
    down 16 (adjacencyPiece c arg1 harg1 arg2 harg2 arg5 harg5 arg6 harg6 x0 x1 x4 x5) := rfl

/-- The pooled rows' stores. -/
theorem pooled_pieces : kernelRun1_A.sl.HS0_16 c arg1 harg1 arg2 harg2 arg5 harg5 arg6 harg6 x0 x1 x4 x5 =
    down 16 (pooledPiece c arg1 harg1 arg2 harg2 arg5 harg5 arg6 harg6 x0 x1 x4 x5) := rfl

/-- Node `n`'s store of its product with the weights. -/
def nodePiece (n : Fin 56) : View.Piece (Elt F) S56x16x32 .f32 :=
  ⟨Rect.unit (s := S56x16x32) ![n.val, 0, 0] ![1, 16, 32] (inbNode n),
    nodeProduct (arg14.view.readCov (kernelRun1_A.sl.HS0_16 c arg1 harg1 arg2 harg2 arg5 harg5 arg6 harg6 x0 x1 x4 x5)
        (Rect.unit (s := S56x16x32) ![n.val, 0, 0] ![1, 16, 32] (inbNode n)).toLoadRect)
      (View.readAt (Elt F) arg3.view (Rect.unit (s := S56x32x32) ![n.val, 0, 0] ![1, 32, 32] (inbW n)).toLoadRect (harg3.unread x2))⟩

/-- The nodes' stores. -/
theorem node_pieces : kernelRun1_A.sl.HS1_56 c arg1 harg1 arg2 harg2 arg3 harg3 arg5 harg5 arg6 harg6 arg14 x0 x1 x2 x4 x5 =
    down 56 (nodePiece c arg1 harg1 arg2 harg2 arg3 harg3 arg5 harg5 arg6 harg6 arg14 x0 x1 x2 x4 x5) := rfl

/-- Sample `s`'s store of its result. -/
def resultPiece (s : Fin 16) : View.Piece (Elt F) S16x1 .f32 :=
  ⟨Rect.unit (s := S16x1) ![s.val, 0] ![1, 1] (inbOut s),
    result (kernelRun1_A.sl.r_3 c arg4 harg4 x3) (kernelRun1_A.sl.r_4 c arg7 harg7 x6) (kernelRun1_A.sl.r_5 c arg8 harg8 x7)
      (kernelRun1_A.sl.r_6 c arg9 harg9 x8) (kernelRun1_A.sl.r_7 c arg10 harg10 x9) (kernelRun1_A.sl.r_8 c arg11 harg11 x10)
      (kernelRun1_A.sl.r_9 c arg12 harg12 x11)
      (arg15.view.readCov
        (kernelRun1_A.sl.HS1_56 c arg1 harg1 arg2 harg2 arg3 harg3 arg5 harg5 arg6 harg6 arg14 x0 x1 x2 x4 x5)
        (Rect.unit (s := S56x16x32) ![0, s.val, 0] ![56, 1, 32] (inbHid s)).toLoadRect)
      (arg16.view.readCov (kernelRun1_A.sl.HS2_16 c arg1 harg1 arg2 harg2 arg5 harg5 arg6 harg6 x0 x1 x4 x5)
        (Rect.unit (s := S896x56) ![56 * s.val, 0] ![56, 56] (inbX s)).toLoadRect)⟩

/-- The results' stores. -/
theorem result_pieces : (kernelRun1_A (F := F) c i arg1 harg1 arg2 harg2 arg3 harg3 arg4 harg4 arg5 harg5 arg6 harg6 arg7 harg7 arg8
      harg8 arg9 harg9 arg10 harg10 arg11 harg11 arg12 harg12 arg13 harg13 arg14 harg14 arg15 harg15 arg16 harg16
      x0 x1 x2 x3 x4 x5 x6 x7 x8 x9 x10 x11).1 =
    down 16 (resultPiece c arg1 harg1 arg2 harg2 arg3 harg3 arg4 harg4 arg5 harg5 arg6 harg6 arg7 harg7 arg8 harg8 arg9 harg9 arg10
      harg10 arg11 harg11 arg12 harg12 arg14 arg15 arg16 x0 x1 x2 x3 x4 x5 x6 x7 x8 x9 x10 x11) := by
  unfold kernelRun1_A; rfl

end Cert.KernelIdeal.Body

end
-- ==== Proof.Rank.lean ====
/- Ranking by a score: the place of an entry among all entries, largest score first and the earlier of two equal ones first, and
   the entry at a given place. -/
module

public import Idealize.ShloMosaic.Lib.SortPrefix
public import Idealize.ShloMosaic.Lib.SortFacts
public import Mathlib.Data.EReal.Basic

@[expose] public section

noncomputable section

namespace Cert.Net

open Idealize.ShloMosaic

variable {n : Nat}

/-- Entry `i` comes before entry `j`: its score is larger, or the scores are equal and it stands earlier. -/
def before (v : Fin n → EReal) (i j : Fin n) : Bool := decide (v j < v i) || (decide (v i = v j) && decide (i < j))

/-- The order is strict and total. -/
theorem before_strict (v : Fin n → EReal) : StrictTotalBefore (before v) :=
  StrictTotalBefore.of_key_then_position (fun a b => decide (b < a)) v (fun a => by simp)
    (fun a b c => by simpa using fun h h' => h'.trans h)
    (fun a b => by rcases lt_trichotomy a b with h | h | h <;> simp [h])

/-- The entry at place `p`. -/
def pick (v : Fin n → EReal) (p : Fin n) : Fin n := sortedFrom (before v) p

/-- Different places hold different entries. -/
theorem pick_injective (v : Fin n → EReal) : Function.Injective (pick v) := sortedFrom_injective _

/-- Every entry is at some place. -/
theorem pick_surjective (v : Fin n → EReal) : Function.Surjective (pick v) := sortedFrom_surjective _

/-- The places are the entries, in another order. -/
theorem bijective_pick (v : Fin n → EReal) : Function.Bijective (pick v) := ⟨pick_injective v, pick_surjective v⟩

/-- The number of entries before entry `i`. -/
def rank (v : Fin n → EReal) (i : Fin n) : Nat := (Finset.univ.filter fun j => before v j i = true).card

/-- The entry at an earlier place comes before the entry at a later one, and only then. -/
theorem before_pick (v : Fin n → EReal) (p q : Fin n) : before v (pick v p) (pick v q) = true ↔ p < q := by
  have key : ∀ p q : Fin n, p < q → before v (pick v p) (pick v q) = true := fun p q h => by
    have h1 := sortedFrom_noInversion (before v) (before v) (fun a b => (before_strict v).asymm a b) (fun _ _ h => h)
      (before_strict v).negTrans p q h
    rcases (before_strict v).total (pick v p) (pick v q) (fun e => absurd (pick_injective v e) (ne_of_lt h)) with h2 | h2
    · exact h2
    · rw [show before v (pick v q) (pick v p) = false from h1] at h2; exact absurd h2 (by decide)
  refine ⟨fun h => ?_, key p q⟩
  rcases lt_trichotomy p q with h' | h' | h'
  · exact h'
  · subst h'; rw [(before_strict v).irrefl] at h; exact absurd h (by decide)
  · rw [(before_strict v).asymm _ _ (key q p h')] at h; exact absurd h (by decide)

/-- The entry at place `p` has `p` entries before it. -/
theorem rank_pick (v : Fin n → EReal) (p : Fin n) : rank v (pick v p) = p.val := by
  have : (Finset.univ.filter fun j => before v j (pick v p) = true) = (Finset.univ.filter fun q => q < p).map
      ⟨pick v, pick_injective v⟩ := by
    ext j
    obtain ⟨q, rfl⟩ := pick_surjective v j
    simp only [Finset.mem_filter, Finset.mem_univ, true_and, Finset.mem_map, Function.Embedding.coeFn_mk]
    refine ⟨fun h => ⟨q, (before_pick v q p).mp h, rfl⟩, ?_⟩
    rintro ⟨q', h, e⟩
    exact e ▸ (before_pick v q' p).mpr h
  rw [rank, this, Finset.card_map]
  have : (Finset.univ.filter fun q => q < p) = Finset.Iio p := by ext; simp
  rw [this, Fin.card_Iio]

/-- An entry has `p` entries before it exactly when it is the entry at place `p`. -/
theorem rank_eq_iff (v : Fin n → EReal) (i p : Fin n) : rank v i = p.val ↔ i = pick v p := by
  obtain ⟨q, rfl⟩ := pick_surjective v i
  constructor
  · intro h
    have := (rank_pick v q).symm.trans h
    rw [Fin.ext this]
  · rintro h
    rw [h, rank_pick]

/-- The sum, over the entries of a rank below `m`, of a function is the sum over the first `m` places. -/
theorem sum_rank_lt (v : Fin n → EReal) (m : Nat) (hm : m ≤ n) (f : Fin n → EReal) :
    (∑ i, if rank v i < m then f i else 0) = ∑ p : Fin m, f (pick v (p.castLE hm)) := by
  rw [← (Equiv.ofBijective (pick v) (bijective_pick v)).sum_comp]
  simp only [Equiv.ofBijective_apply, rank_pick]
  rw [← Finset.sum_filter]
  symm
  refine Finset.sum_bij (fun p _ => p.castLE hm) (fun p _ => by simp) (fun p _ q _ h => by simpa [Fin.ext_iff] using h)
    (fun q hq => ⟨⟨q.val, by simpa using hq⟩, Finset.mem_univ _, rfl⟩) (fun _ _ => rfl)

/-- The rank, spelt out. -/
theorem rank_eq (v : Fin n → EReal) (i : Fin n) : rank v i = (Finset.univ.filter fun j => before v j i = true).card := rfl

/-- The order, spelt out. -/
theorem before_eq (v : Fin n → EReal) (i j : Fin n) :
    before v i j = (decide (v j < v i) || (decide (v i = v j) && decide (i < j))) := rfl

/-- The entry at a place is the stable sort's. -/
theorem pick_eq (v : Fin n → EReal) (p : Fin n) : pick v p = sortedFrom (before v) p := rfl

attribute [irreducible] pick rank before

end Cert.Net

end
-- ==== Proof.Words.lean ====
/- The words of the ranking: the count of the entries before an entry, as a 32-bit word, and the number of the entry at a place,
   read off the weighted sum of the entries' numbers. -/
module

public import proofs.«01_k».proof.Proof.Rank
public import Idealize.ShloMosaic.Lib.Pointwise
public import Idealize.ShloMosaic.Lib.IndicatorCount
public import Idealize.ShloMosaic.Lib.WordCmp

@[expose] public section

noncomputable section

namespace Cert.Net

open Idealize.ShloMosaic

variable {n : Nat}

/-- A small number as a signed word. -/
theorem toInt_word (c : Nat) (hc : c < 2 ^ 31) : (BitVec.ofNat 32 c).toInt = c := by
  rw [BitVec.toInt_eq_toNat_cond, BitVec.toNat_ofNat, Nat.mod_eq_of_lt (by omega), if_pos (by omega)]

/-- Comparing two small numbers as words. -/
theorem slt_word (a b : Nat) (ha : a < 2 ^ 31) (hb : b < 2 ^ 31) :
    IntOp.cmpi .slt (BitVec.ofNat 32 a) (BitVec.ofNat 32 b) = BitVec.ofBool (decide (a < b)) := by
  show BitVec.ofBool (BitVec.slt _ _) = _
  rw [BitVec.slt, toInt_word a ha, toInt_word b hb]
  simp

/-- The word that counts the entries before entry `i`: one for each entry whose score is larger, or equal at an earlier entry. -/
theorem rank_word (hn : n < 2 ^ 31) (v : Fin n → EReal) (i : Fin n) :
    Finset.univ.fold IntOp.addi (0#32) (fun j : Fin n => BitVec.setWidth 32
      (IntOp.ori (BitVec.ofBool (decide (v i < v j)))
        (IntOp.andi (BitVec.ofBool (decide (v j = v i))) (IntOp.cmpi .slt (BitVec.ofNat 32 j.val) (BitVec.ofNat 32 i.val)))))
      = BitVec.ofNat 32 (rank v i) := by
  rw [IndicatorCount.fold_addi_setWidth_eq_card, rank_eq]
  congr 2
  ext j
  rw [Finset.mem_filter, Finset.mem_filter, slt_word _ _ (by omega) (by omega), before_eq]
  simp only [Finset.mem_univ, true_and]
  by_cases h1 : v i < v j <;> by_cases h2 : v j = v i <;> by_cases h3 : j < i <;>
    simp [h1, h2, h3, IntOp.ori, IntOp.andi, Fin.lt_def.symm]

/-- There are fewer entries before an entry than there are entries. -/
theorem rank_lt (v : Fin n → EReal) (i : Fin n) : rank v i < n := by
  obtain ⟨p, rfl⟩ := pick_surjective v i
  rw [rank_pick]; exact p.isLt

/-- Whether an entry is at place `p`, as a number. -/
theorem place_flag (hn : n < 2 ^ 31) (v : Fin n → EReal) (i p : Fin n) :
    (FloatOps.sitofp .f32 (BitVec.setWidth 32 (IntOp.cmpi .eq (BitVec.ofNat 32 (rank v i)) (BitVec.ofNat 32 p.val))) :
      Ideal .f32) = if i = pick v p then (1 : EReal) else 0 := by
  have hr := rank_lt v i
  have e : IntOp.cmpi .eq (BitVec.ofNat 32 (rank v i)) (BitVec.ofNat 32 p.val) = BitVec.ofBool (decide (i = pick v p)) := by
    show BitVec.ofBool (BitVec.ofNat 32 (rank v i) == BitVec.ofNat 32 p.val) = _
    congr 1
    apply Bool.eq_iff_iff.mpr
    simp only [beq_iff_eq, decide_eq_true_eq]
    rw [← rank_eq_iff v i p]
    refine ⟨fun h => ?_, fun h => by rw [h]⟩
    have := congrArg BitVec.toNat h
    simp only [BitVec.toNat_ofNat] at this
    omega
  rw [e]
  by_cases h : i = pick v p <;> simp only [h, decide_true, decide_false, if_true, if_false] <;>
    exact (Ideal.scalar_sitofp_def _).trans (by simp)

/-- Whether an entry is among the first `m`, as a number. -/
theorem top_flag (hn : n < 2 ^ 31) (v : Fin n → EReal) (i : Fin n) (m : Nat) (hm : m < 2 ^ 31) :
    (FloatOps.sitofp .f32 (BitVec.setWidth 32 (IntOp.cmpi .slt (BitVec.ofNat 32 (rank v i)) (BitVec.ofNat 32 m))) :
      Ideal .f32) = if rank v i < m then (1 : EReal) else 0 := by
  have hr := rank_lt v i
  rw [slt_word _ _ (by omega) hm]
  by_cases h : rank v i < m <;> simp only [h, decide_true, decide_false, if_true, if_false] <;>
    exact (Ideal.scalar_sitofp_def _).trans (by simp)

/-- A small natural number read back from its value. -/
theorem word_of_nat (a : Nat) (ha : a < 2 ^ 31) : FloatOps.fptosi (F := Ideal) (φ := .f32) 32 ((a : ℝ) : EReal) = BitVec.ofNat 32 a := by
  show Ideal.fptosi 32 _ = _
  have e : Ideal.toIntClamped (-(2 ^ (32 - 1) : Nat)) ((2 ^ (32 - 1) : Nat) - 1) ((a : ℝ) : EReal) = (a : ℤ) := by
    show max _ (min _ (if (0 : ℝ) ≤ (a : ℝ) then ⌊(a : ℝ)⌋ else ⌈(a : ℝ)⌉)) = _
    rw [if_pos (Nat.cast_nonneg a), Int.floor_natCast]
    omega
  rw [Ideal.fptosi, e]
  exact BitVec.ofInt_natCast 32 a

/-- The number of the entry at place `p`: the sum of the entries' numbers, each kept only where its entry is at that place. -/
theorem pick_word (hn : n < 2 ^ 31) (v : Fin n → EReal) (p : Fin n) :
    FloatOps.fptosi (F := Ideal) (φ := .f32) 32 (∑ i : Fin n, (FloatOps.sitofp .f32 (BitVec.ofNat 32 i.val) : Ideal .f32) *
      (FloatOps.sitofp .f32 (BitVec.setWidth 32 (IntOp.cmpi .eq (BitVec.ofNat 32 (rank v i)) (BitVec.ofNat 32 p.val))) :
        Ideal .f32) : EReal) = BitVec.ofNat 32 (pick v p).val := by
  rw [← word_of_nat (pick v p).val (by omega)]
  congr 1
  rw [Finset.sum_eq_single (pick v p)]
  · rw [place_flag hn, if_pos rfl, mul_one]
    refine (Ideal.scalar_sitofp_def _).trans ?_
    rw [toInt_word _ (by omega)]
    simp
  · intro i _ h
    rw [place_flag hn, if_neg h, mul_zero]
  · intro h; exact absurd (Finset.mem_univ _) h

/-- A column number that is not negative as a word is left alone. -/
theorem keep_word (a : Nat) (ha : a < 2 ^ 31) (y : BitVec 32) :
    Scalar.select (IntOp.cmpi .slt (BitVec.ofNat 32 a) 0#32) y (BitVec.ofNat 32 a) = BitVec.ofNat 32 a := by
  rw [show (0#32 : BitVec 32) = BitVec.ofNat 32 0 from rfl, slt_word a 0 ha (by norm_num)]
  simp [Scalar.select]

end Cert.Net

end
-- ==== Proof.Spec.lean ====
/- What the network computes for one sample, over the extended reals: two graph convolutions, each followed by a pooling that keeps
   the half of the nodes with the largest scores, then a mean over the kept nodes and two dense layers. -/
module

public import proofs.«01_k».proof.Proof.Rank
public import Idealize.ShloMosaic.PureOps.Ideal

@[expose] public section

noncomputable section

namespace Cert.Net

open Idealize.ShloMosaic

variable {n m : Nat}

/-- The entry at one of the first `m` places. -/
def place (hm : m ≤ n) (v : Fin n → EReal) (p : Fin m) : Fin n := pick v (p.castLE hm)

/-- A graph convolution after the rectifier: the neighbours' rows, weighted, plus the node's own row. -/
def conv (A : Fin n → Fin n → EReal) (h : Fin n → Fin m → EReal) (i : Fin n) (k : Fin m) : EReal :=
  max ((∑ j, A i j * h j k) + h i k) 0

/-- The nodes' scores: the logistic function of the projection. -/
def score (h : Fin n → Fin m → EReal) (w : Fin m → EReal) (b : EReal) (i : Fin n) : EReal :=
  Ideal.logistic ((∑ k, h i k * w k) + b)

/-- The kept nodes' rows times their scores. -/
def pool {l : Nat} (hm : m ≤ n) (h : Fin n → Fin l → EReal) (v : Fin n → EReal) (p : Fin m) (k : Fin l) : EReal :=
  h (place hm v p) k * v (place hm v p)

/-- The kept nodes' adjacency, transposed, over its row sums. -/
def keep (hm : m ≤ n) (A : Fin n → Fin n → EReal) (v : Fin n → EReal) (p q : Fin m) : EReal :=
  Ideal.div (A (place hm v q) (place hm v p)) (∑ r, A (place hm v r) (place hm v p))

/-- Each node's row times the node's own weights. -/
def weigh {l : Nat} (h : Fin n → Fin m → EReal) (W : Fin n → Fin m → Fin l → EReal) (i : Fin n) (o : Fin l) : EReal :=
  ∑ k, h i k * W i k o

/-- The second half of the network, from the second layer's weighted rows `h` and the kept adjacency `A`. -/
def head (b2 w : Fin 32 → EReal) (b : EReal) (f1 : Fin 32 → Fin 16 → EReal) (g1 f2 : Fin 16 → EReal) (g2 : EReal)
    (h : Fin 56 → Fin 32 → EReal) (A : Fin 56 → Fin 56 → EReal) : EReal :=
  let s := conv A fun i o => h i o + b2 o
  let v := score s w b
  let mean := fun o => Ideal.div (∑ p : Fin 28, pool (by decide) s v p o) (Ideal.ofBits .f32 0x41E00000#32)
  (∑ j, max ((∑ o, mean o * f1 o j) + g1 j) 0 * f2 j) + g2

/-- The network's result for the sample with adjacency `A`: `P` the first layer's rows of weights plus bias, `W` the second layer's
    weights. -/
def net (P : Fin 112 → Fin 32 → EReal) (W : Fin 56 → Fin 32 → Fin 32 → EReal) (w1 : Fin 32 → EReal) (b1 : EReal)
    (b2 w : Fin 32 → EReal) (b : EReal) (f1 : Fin 32 → Fin 16 → EReal) (g1 f2 : Fin 16 → EReal) (g2 : EReal)
    (A : Fin 112 → Fin 112 → EReal) : EReal :=
  let s := conv A P
  let v := score s w1 b1
  head b2 w b f1 g1 f2 g2 (weigh (pool (by decide) s v) W) (keep (by decide) A v)

/-- The first layer's rows: node `i`'s row of the weights `α β`, plus the bias. -/
def firstRows (α : Fin 112 → Fin 8 → EReal) (β : Fin 8 → Fin 3584 → EReal) (b : Fin 32 → EReal) (i : Fin 112) (o : Fin 32) : EReal :=
  (∑ c, α i c * β c ⟨i.val * 32 + o.val, by omega⟩) + b o

/-- The second layer's weights `α β`. -/
def secondWeights (α : Fin 56 → Fin 8 → EReal) (β : Fin 8 → Fin 1024 → EReal) (i : Fin 56) (k o : Fin 32) : EReal :=
  ∑ c, α i c * β c ⟨k.val * 32 + o.val, by omega⟩

end Cert.Net

end
-- ==== Proof.Choose.lean ====
/- The first pooling layer of a sample over the extended reals: the chosen nodes, their rows and their adjacency, at an index. -/
module

public import proofs.«01_k».proof.Proof.Body
public import proofs.«01_k».proof.Proof.Words
public import proofs.«01_k».proof.Proof.Spec

@[expose] public section

set_option maxRecDepth 16384

noncomputable section

namespace Cert.KernelIdeal.Body

open Idealize.ShloMosaic Idealize.ShloMosaic.TcCoe Idealize.SL.Sem Cert.KernelIdeal Cert.KernelIdeal.Gen

/-- The scores of the nodes, by node. -/
def scores (sc : FVec Ideal S112x1 .f32) (i : Fin 112) : EReal := sc (ix2 i 0)

/-- The node at place `p` of the first 56. -/
def node (v : Fin 112 → EReal) (p : Fin 56) : Fin 112 := Net.place (by decide) v p

/-- The chosen node's number, as a word. -/
theorem chosen_apply (sc : FVec Ideal S112x1 .f32) (p : Fin 56) :
    chosen sc (ix2 0 p) = BitVec.ofNat 32 (node (scores sc) p).val := by
  unfold chosen k1_pay13 k1_pay9 positions
  pointwise
  unfold node Net.place
  refine Eq.trans ?_ (Net.pick_word (by decide) (scores sc) (p.castLE (by decide)))
  refine congrArg _ (Finset.sum_congr rfl fun x _ => congrArg _ ?_)
  rw [← Net.rank_word (by decide)]
  rfl

/-- The lookup of a chosen node's column stays where it is: the number is not negative and below the padded width. -/
theorem column_word (v : Fin 112 → EReal) (p : Fin 56) (y : BitVec 32) :
    (Scalar.select (IntOp.cmpi .slt (BitVec.ofNat 32 (node v p).val) 0#32) y (BitVec.ofNat 32 (node v p).val)).toNat % 128
      = (node v p).val := by
  have := (node v p).isLt
  rw [Net.keep_word _ (by omega), BitVec.toNat_ofNat, Nat.mod_eq_of_lt (by omega), Nat.mod_eq_of_lt (by omega)]

/-- The chosen nodes' rows times their scores. -/
theorem pooled_apply (h : FVec Ideal S112x32 .f32) (sc : FVec Ideal S112x1 .f32) (p : Fin 56) (k : Fin 32) :
    pooled h sc (ix3 p 0 k) = Net.pool (by decide) (fun i k => h (ix2 i k)) (scores sc) p k := by
  have e := chosen_apply sc p
  unfold chosen at e
  unfold pooled k1_pay14
  pointwise
  simp only [e, column_word, (node (scores sc) p).isLt, dif_pos]
  rfl

/-- A sample's first convolution. -/
theorem conv1_apply (pre : FVec Ideal S1792x32 .f32) (h : FVec Ideal S112x32 .f32) (s : Fin 16) (i : Fin 112) (k : Fin 32) :
    conv1 pre h s (ix2 i k) = max (pre (ix2 ⟨112 * s.val + i.val, by omega⟩ k) + h (ix2 i k)) 0 := by
  unfold conv1
  pointwise

/-- A sample's scores. -/
theorem score1_apply (w : Vec Ideal S32x1 .f32) (b : FVec Ideal S1x1 .f32) (h : FVec Ideal S112x32 .f32) (i : Fin 112) :
    score1 w b h (ix2 i 0) = Net.score (fun i k => h (ix2 i k)) (fun k => w (ix2 k 0)) (b (ix2 0 0)) i := by
  unfold score1
  pointwise
  rfl

/-- A node's rows of all samples times the node's weights. -/
theorem nodeProduct_apply (h : Vec Ideal S1x16x32 .f32) (w : Vec Ideal S1x32x32 .f32) (s : Fin 16) (o : Fin 32) :
    nodeProduct h w (ix3 0 s o) = ∑ k : Fin 32, h (ix3 0 s k) * w (ix3 0 k o) := by
  unfold nodeProduct k1_pay134
  pointwise

end Cert.KernelIdeal.Body

end
-- ==== Proof.Rows.lean ====
/- One step of the second region over the extended reals, before its stores: the loads removed, the sample's first convolution and its
   scores as the network's. -/
module

public import proofs.«01_k».proof.Proof.Pieces
public import proofs.«01_k».proof.Proof.Choose

@[expose] public section

set_option maxRecDepth 16384

noncomputable section

namespace Cert.KernelIdeal.Body

open Idealize.ShloMosaic Idealize.ShloMosaic.TcCoe Idealize.SL.Sem Cert.KernelIdeal Cert.KernelIdeal.Gen

/-- A load of a whole buffer gives its contents. -/
theorem load_whole {s : Shape} {e : EltTy} (arg : Memref sig .tc .vmem s e) (h : arg.IsWhole) (x : Vec Ideal s e)
    (off : Fin s.rank → Nat) (inb : ∀ a, off a + s.size a ≤ s.size a) :
    View.readAt (Elt Ideal) arg.view (Rect.unit (s := s) off s.size inb).toLoadRect (h.unread x) = x := by
  rw [View.readAt_eq_ld, h.read_unread]
  funext j
  refine congrArg x (funext fun a => Fin.ext ?_)
  show off a + 1 * (j a).val = (j a).val
  have := inb a
  omega

/-- A load of a part of a whole buffer reads its contents there. -/
theorem load_part {s : Shape} {e : EltTy} (arg : Memref sig .tc .vmem s e) (h : arg.IsWhole) (x : Vec Ideal s e)
    (off size : Fin s.rank → Nat) (inb : ∀ a, off a + size a ≤ s.size a) :
    View.readAt (Elt Ideal) arg.view (Rect.unit (s := s) off size inb).toLoadRect (h.unread x) =
      View.ld x (Rect.unit (s := s) off size inb) := by
  rw [View.readAt_eq_ld, h.read_unread]

variable (c : Dev nD) (arg1 : Memref sig .tc .vmem S1792x112 .f32) (harg1 : arg1.IsWhole)
  (arg2 : Memref sig .tc .vmem S112x32 .f32) (harg2 : arg2.IsWhole) (arg5 : Memref sig .tc .vmem S32x1 .f32) (harg5 : arg5.IsWhole)
  (arg6 : Memref sig .tc .vmem S1x1 .f32) (harg6 : arg6.IsWhole)
  (x0 : Vec Ideal S1792x112 .f32) (x1 : Vec Ideal S112x32 .f32) (x4 : Vec Ideal S32x1 .f32) (x5 : Vec Ideal S1x1 .f32)

/-- Sample `s`'s adjacency in a block of sixteen. -/
def sampleRows (s : Fin 16) (i j : Fin 112) : EReal := x0 (ix2 ⟨112 * s.val + i.val, by omega⟩ j)

/-- Sample `s`'s first convolution. -/
def sampleConv (s : Fin 16) : Fin 112 → Fin 32 → EReal := Net.conv (sampleRows x0 s) fun i k => x1 (ix2 i k)

/-- Sample `s`'s scores. -/
def sampleScores (s : Fin 16) : Fin 112 → EReal := Net.score (sampleConv x0 x1 s) (fun k => x4 (ix2 k 0)) (x5 (ix2 0 0))

/-- The step's rows of sample `s` are the sample's adjacency. -/
theorem rowsOf_apply (s : Fin 16) (i j : Fin 112) : rowsOf arg1 harg1 x0 s (ix2 i j) = sampleRows x0 s i j := by
  unfold rowsOf k1_pay10
  rw [load_part]
  pointwise
  rfl

/-- The step's first convolution of sample `s` is the sample's. -/
theorem convOf_apply (s : Fin 16) (i : Fin 112) (k : Fin 32) :
    convOf c arg1 harg1 arg2 harg2 x0 x1 s (ix2 i k) = sampleConv x0 x1 s i k := by
  unfold convOf
  rw [conv1_apply]
  unfold kernelRun1_A.sl.r_10 k1_pay8 k1_pay2
  rw [load_whole, load_whole]
  pointwise
  rfl

/-- The step's scores of sample `s` are the sample's. -/
theorem scoreOf_apply (s : Fin 16) (i : Fin 112) :
    scoreOf c arg1 harg1 arg2 harg2 arg5 harg5 arg6 harg6 x0 x1 x4 x5 s (ix2 i 0) = sampleScores x0 x1 x4 x5 s i := by
  unfold scoreOf
  rw [score1_apply]
  unfold kernelRun1_A.sl.r_1 kernelRun1_A.sl.r_2 k1_pay3
  rw [load_whole, load_whole]
  simp only [convOf_apply]
  pointwise
  rfl

/-- The scores as a function of the node. -/
theorem scores_scoreOf (s : Fin 16) :
    scores (scoreOf c arg1 harg1 arg2 harg2 arg5 harg5 arg6 harg6 x0 x1 x4 x5 s) = sampleScores x0 x1 x4 x5 s :=
  funext fun i => scoreOf_apply c arg1 harg1 arg2 harg2 arg5 harg5 arg6 harg6 x0 x1 x4 x5 s i

/-- A family's listed members are the family's values. -/
theorem mem_down {α : Type} {n : Nat} (P : Fin n → α) (p : α) : p ∈ down n P ↔ ∃ k, p = P k := by
  induction n with
  | zero => exact ⟨fun h => absurd h List.not_mem_nil, fun ⟨k, _⟩ => k.elim0⟩
  | succ n ih =>
    rw [down, List.mem_cons, ih]
    constructor
    · rintro (h | ⟨k, h⟩)
      · exact ⟨_, h⟩
      · exact ⟨_, h⟩
    · rintro ⟨k, h⟩
      induction k using Fin.lastCases with
      | last => exact .inl h
      | cast k => exact .inr ⟨k, h⟩

/-- Reading a family of stores that all store parts of one array `G`, at an index that one of them reaches. -/
theorem canon_down {s : Shape} {n : Nat} (P : Fin n → View.Piece (Elt Ideal) s .f32) (G : s.Idx → EReal)
    (hG : ∀ k x, (P k).2 x = G ((P k).1.emb x)) (k : Fin n) (y : s.Idx) (hy : y ∈ (P k).1.set) :
    View.canon (down n P) y = G y := by
  refine View.canon_apply_of_pieces (Val := Elt Ideal) G _ ?_ y ⟨P k, (mem_down P _).mpr ⟨k, rfl⟩, hy⟩
  intro p hp
  obtain ⟨j, rfl⟩ := (mem_down P p).mp hp
  exact hG j

end Cert.KernelIdeal.Body

end
-- ==== Proof.Weights.lean ====
/- The first region over the extended reals: the first layer's rows with the bias, and the second layer's weights. -/
module

public import proofs.«01_k».proof.Proof.Rows

@[expose] public section

set_option maxRecDepth 16384

noncomputable section

namespace Cert.KernelIdeal.Body

open Idealize.ShloMosaic Idealize.ShloMosaic.TcCoe Idealize.SL.Sem Cert.KernelIdeal Cert.KernelIdeal.Gen

/-- A node's row of `alpha1` lies inside `alpha1`. -/
theorem inbAlpha (n : Fin 112) : ∀ a, (![n.val, 0] : Fin S112x8.rank → Nat) a + S1x8.size a ≤ S112x8.size a := by
  intro a; fin_cases a <;> simp [S1x8, S112x8] <;> omega

/-- A node's columns of `beta1` lie inside `beta1`. -/
theorem inbBeta (n : Fin 112) : ∀ a, (![0, n.val, 0] : Fin S8x112x32.rank → Nat) a + S8x1x32.size a ≤ S8x112x32.size a := by
  intro a; fin_cases a <;> simp [S8x1x32, S8x112x32] <;> omega

/-- A node's row lies inside the rows. -/
theorem inbRow (n : Fin 112) : ∀ a, (![n.val, 0] : Fin S112x32.rank → Nat) a + S1x32.size a ≤ S112x32.size a := by
  intro a; fin_cases a <;> simp [S1x32, S112x32] <;> omega

variable (c : Dev nD) (arg0 : Memref sig .tc .vmem S112x8 .f32) (harg0 : arg0.IsWhole)
  (arg1 : Memref sig .tc .vmem S8x112x32 .f32) (harg1 : arg1.IsWhole) (arg2 : Memref sig .tc .vmem S1x32 .f32) (harg2 : arg2.IsWhole)
  (arg3 : Memref sig .tc .vmem S56x8 .f32) (harg3 : arg3.IsWhole) (arg4 : Memref sig .tc .vmem S8x1024 .f32) (harg4 : arg4.IsWhole)
  (arg5 : Memref sig .tc .vmem S112x32 .f32) (harg5 : arg5.IsWhole) (arg6 : Memref sig .tc .vmem S56x1024 .f32) (harg6 : arg6.IsWhole)
  (arg7 : Memref sig .tc .vmem S112x32 .f32) (harg7 : arg7.IsWhole)
  (x0 : Vec Ideal S112x8 .f32) (x1 : Vec Ideal S8x112x32 .f32) (x2 : Vec Ideal S1x32 .f32) (x3 : Vec Ideal S56x8 .f32)
  (x4 : Vec Ideal S8x1024 .f32)

/-- Node `n`'s store of its row. -/
def rowPiece (n : Fin 112) : View.Piece (Elt Ideal) S112x32 .f32 :=
  ⟨Rect.unit (s := S112x32) ![n.val, 0] S1x32.size (inbRow n),
    k0_pay3 (View.readAt (Elt Ideal) arg0.view (Rect.unit (s := S112x8) ![n.val, 0] S1x8.size (inbAlpha n)).toLoadRect (harg0.unread x0))
      (View.readAt (Elt Ideal) arg1.view (Rect.unit (s := S8x112x32) ![0, n.val, 0] S8x1x32.size (inbBeta n)).toLoadRect
        (harg1.unread x1))⟩

/-- The rows' stores. -/
theorem row_pieces : kernelRun0_A.sl.HS0_112 (F := Ideal) c arg0 harg0 arg1 harg1 x0 x1 = down 112 (rowPiece arg0 harg0 arg1 harg1 x0 x1) :=
  rfl

/-- A node's product: its row of `alpha1` against its columns of `beta1`. -/
theorem row_apply (a : Vec Ideal S1x8 .f32) (b : Vec Ideal S8x1x32 .f32) (o : Fin 32) :
    k0_pay3 a b (ix2 0 o) = ∑ c : Fin 8, a (ix2 0 c) * b (ix3 c 0 o) := by
  unfold k0_pay3
  pointwise

/-- Where a node's row of `alpha1` lies. -/
theorem emb_alpha (n : Fin 112) (k : Fin 8) :
    (Rect.unit (s := S112x8) ![n.val, 0] S1x8.size (inbAlpha n)).emb (ix2 0 k) = ix2 n k := by
  funext z; apply Fin.ext; rw [Rect.emb_apply]
  fin_cases z <;> simp [Rect.unit]

/-- Where a node's columns of `beta1` lie. -/
theorem emb_beta (n : Fin 112) (k : Fin 8) (o : Fin 32) :
    (Rect.unit (s := S8x112x32) ![0, n.val, 0] S8x1x32.size (inbBeta n)).emb (ix3 k 0 o) = ix3 k n o := by
  funext z; apply Fin.ext; rw [Rect.emb_apply]
  fin_cases z <;> simp [Rect.unit]

/-- Where a node's row lies. -/
theorem emb_row (n : Fin 112) (o : Fin 32) :
    (Rect.unit (s := S112x32) ![n.val, 0] S1x32.size (inbRow n)).emb (ix2 0 o) = ix2 n o := by
  funext z; apply Fin.ext; rw [Rect.emb_apply]
  fin_cases z <;> simp [Rect.unit]

/-- Node `n`'s row of the first layer's weights. -/
def nodeRow (n : Fin 112) (o : Fin 32) : EReal := ∑ k : Fin 8, x0 (ix2 n k) * x1 (ix3 k n o)

/-- The stored rows, node by node. -/
theorem row_stored (n : Fin 112) (o : Fin 32) :
    View.canon (kernelRun0_A.sl.HS0_112 (F := Ideal) c arg0 harg0 arg1 harg1 x0 x1) (ix2 n o) = nodeRow x0 x1 n o := by
  rw [row_pieces]
  let G : S112x32.Idx → EReal := fun y => nodeRow x0 x1 (y 0) (y 1)
  refine (canon_down (s := S112x32) (rowPiece arg0 harg0 arg1 harg1 x0 x1) G ?_ n (ix2 n o) ?_).trans rfl
  · intro n x
    obtain ⟨a, d, rfl⟩ : ∃ (a : Fin 1) (d : Fin 32), x = ix2 a d := ⟨x 0, x 1, eq_ix2 x⟩
    obtain rfl : a = 0 := Subsingleton.elim _ _
    refine (row_apply _ _ d).trans (Eq.trans ?_ (congrArg G (emb_row n d)).symm)
    show _ = ∑ k : Fin 8, x0 (ix2 n k) * x1 (ix3 k n d)
    refine Finset.sum_congr rfl fun k _ => ?_
    rw [load_part, load_part]
    exact congrArg₂ (· * ·) (congrArg x0 (emb_alpha n k)) (congrArg x1 (emb_beta n k d))
  · refine (Rect.mem_set_unit (inb := inbRow n)).mpr fun z => ?_
    fin_cases z <;> simp

/-- The unit matrix at an index. -/
theorem unit_apply (i j : Fin 112) : k0_pay130 (F := Ideal) (ix2 i j) = if i = j then (1 : EReal) else 0 := by
  unfold k0_pay130
  pointwise
  have e : (BitVec.ofNat 32 i.val = BitVec.ofNat 32 j.val) ↔ i = j := by
    refine ⟨fun h => Fin.ext ?_, fun h => by rw [h]⟩
    have := congrArg BitVec.toNat h
    simp only [BitVec.toNat_ofNat] at this
    omega
  by_cases h : i = j
  · subst h
    simp [IntOp.cmpi, FloatOps.sitofp]
  · have h' := mt e.mp h
    have h2 := beq_eq_false_iff_ne.mpr h'
    simp [IntOp.cmpi, FloatOps.sitofp, h, h2]

/-- The rows with the bias, from the rows `d` and the bias `b`. -/
theorem biased_apply (d : Vec Ideal S112x32 .f32) (b : Vec Ideal S1x32 .f32) (n : Fin 112) (o : Fin 32) :
    k0_pay1 (k0_pay130 (F := Ideal)) d b (ix2 n o) = d (ix2 n o) + b (ix2 0 o) := by
  have e : k0_pay1 (k0_pay130 (F := Ideal)) d b (ix2 n o) =
      (∑ j : Fin 112, k0_pay130 (F := Ideal) (ix2 n j) * d (ix2 j o)) + b (ix2 0 o) := by
    unfold k0_pay1
    pointwise
  rw [e]
  simp only [unit_apply, ite_mul, one_mul, zero_mul, Finset.sum_ite_eq, Finset.mem_univ, if_true]

/-- The second layer's weights, from `alpha2` and `beta2`. -/
theorem weights_apply (a : Vec Ideal S56x8 .f32) (b : Vec Ideal S8x1024 .f32) (n : Fin 56) (o : Fin 1024) :
    k0_pay2 a b (ix2 n o) = ∑ k : Fin 8, a (ix2 n k) * b (ix2 k o) := by
  unfold k0_pay2
  pointwise

/-- The first region's first output: the rows with the bias. -/
theorem rows_stored (n : Fin 112) (o : Fin 32) :
    View.canon (kernelRun0_A (F := Ideal) c arg0 harg0 arg1 harg1 arg2 harg2 arg3 harg3 arg4 harg4 arg5 harg5 arg6 harg6 arg7 harg7
      x0 x1 x2 x3 x4).1 (ix2 n o) = nodeRow x0 x1 n o + x2 (ix2 0 o) := by
  have e : (kernelRun0_A (F := Ideal) c arg0 harg0 arg1 harg1 arg2 harg2 arg3 harg3 arg4 harg4 arg5 harg5 arg6 harg6 arg7 harg7
      x0 x1 x2 x3 x4).1 = [⟨Rect.unit (s := S112x32) ![0, 0] S112x32.size inb_S112x32_S112x32_0_0,
        k0_pay1 (k0_pay130 (F := Ideal)) (arg7.view.readCov (kernelRun0_A.sl.HS0_112 (F := Ideal) c arg0 harg0 arg1 harg1 x0 x1)
          (Rect.unit (s := S112x32) ![0, 0] S112x32.size inb_S112x32_S112x32_0_0).toLoadRect)
          (View.readAt (Elt Ideal) arg2.view (Rect.unit (s := S1x32) ![0, 0] S1x32.size inb_S1x32_S1x32_0_0).toLoadRect (harg2.unread x2))⟩] := by
    unfold kernelRun0_A; rfl
  rw [e, View.canon_unit_zero (by funext z; fin_cases z <;> rfl), biased_apply, load_whole, View.readCov_eq_canon']
  refine congrArg (· + _) (Eq.trans (congrArg _ ?_) (row_stored c arg0 harg0 arg1 harg1 x0 x1 n o))
  funext z; apply Fin.ext
  fin_cases z <;> simp [Rect.unit]

/-- The first region's second output: the second layer's weights. -/
theorem weights_stored (n : Fin 56) (o : Fin 1024) :
    View.canon (kernelRun0_A (F := Ideal) c arg0 harg0 arg1 harg1 arg2 harg2 arg3 harg3 arg4 harg4 arg5 harg5 arg6 harg6 arg7 harg7
      x0 x1 x2 x3 x4).2.1 (ix2 n o) = ∑ k : Fin 8, x3 (ix2 n k) * x4 (ix2 k o) := by
  have e : (kernelRun0_A (F := Ideal) c arg0 harg0 arg1 harg1 arg2 harg2 arg3 harg3 arg4 harg4 arg5 harg5 arg6 harg6 arg7 harg7
      x0 x1 x2 x3 x4).2.1 = [⟨Rect.unit (s := S56x1024) ![0, 0] S56x1024.size inb_S56x1024_S56x1024_0_0,
        k0_pay2 (View.readAt (Elt Ideal) arg3.view (Rect.unit (s := S56x8) ![0, 0] S56x8.size inb_S56x8_S56x8_0_0).toLoadRect (harg3.unread x3))
          (View.readAt (Elt Ideal) arg4.view (Rect.unit (s := S8x1024) ![0, 0] S8x1024.size inb_S8x1024_S8x1024_0_0).toLoadRect
            (harg4.unread x4))⟩] := by
    unfold kernelRun0_A; rfl
  rw [e, View.canon_unit_zero (by funext z; fin_cases z <;> rfl), weights_apply, load_whole, load_whole]

end Cert.KernelIdeal.Body

end
-- ==== Proof.First.lean ====
/- What the first region leaves: the first layer's rows plus bias, and the second layer's weights, as functions of the arguments. -/
module

public import proofs.«01_k».proof.Proof.Blocks
public import proofs.«01_k».proof.Proof.Weights
public import proofs.«01_k».proof.Proof.Spec

@[expose] public section

set_option maxRecDepth 16384

noncomputable section

namespace Cert.KernelIdeal.Body

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b)) (c : Dev nD)

/-- Entry `n o` of the product that gives the second layer's weights. -/
def secondProduct (x3 : Vec Ideal S56x8 .f32) (x4 : Vec Ideal S8x1024 .f32) (n : Fin 56) (o : Fin 1024) : EReal :=
  ∑ k : Fin 8, x3 (ix2 n k) * x4 (ix2 k o)

/-- The first result's staging buffer after the first region's one point. -/
theorem rows_after (t : Fin cfg0.N) (n : Fin 112) (o : Fin 32) : (outsAt0 V c t).1 (ix2 n o) =
    nodeRow (V c main_arg1) (V c main_v1) n o + (V c main_v2 : Vec Ideal S1x32 .f32) (ix2 0 o) := by
  unfold outsAt0 out0_A_5
  dsimp only
  rw [View.read_writes_junk_eq_canon, rows_stored, block0_0, block0_1, block0_2]

/-- The second result's staging buffer after it. -/
theorem weights_after (t : Fin cfg0.N) (n : Fin 56) (o : Fin 1024) : (outsAt0 V c t).2 (ix2 n o) =
    secondProduct (V c main_arg6) (V c main_arg7) n o := by
  unfold outsAt0 out0_A_6
  dsimp only
  rw [View.read_writes_junk_eq_canon, weights_stored, block0_3, block0_4]
  rfl

/-- The first result's array after the first region. -/
theorem rows_array (n : Fin 112) (o : Fin 32) : ((dat0 V c).arrAt 5 cfg0.N : Vec Ideal S112x32 .f32) (ix2 n o) =
    nodeRow (V c main_arg1) (V c main_v1) n o + (V c main_v2 : Vec Ideal S1x32 .f32) (ix2 0 o) := by
  refine ((dat0 V c).arrAt_emb_eq_after_last 5 t0_0 (by decide +kernel) (ix2 n o)).trans ?_
  rw [after0_5]
  exact rows_after V c _ n o

/-- The second result's array after it. -/
theorem weights_array (n : Fin 56) (o : Fin 1024) : ((dat0 V c).arrAt 6 cfg0.N : Vec Ideal S56x1024 .f32) (ix2 n o) =
    secondProduct (V c main_arg6) (V c main_arg7) n o := by
  refine ((dat0 V c).arrAt_emb_eq_after_last 6 t0_0 (by decide +kernel) (ix2 n o)).trans ?_
  rw [after0_6]
  exact weights_after V c _ n o

variable (m : (ℓ : Loc nD τ sig) → Buf (Elt Ideal) ℓ) (ρ : Dev nD → PrngReg)

/-- The first layer's rows as the second region finds them. -/
theorem rows_held (n : Fin 112) (o : Fin 32) : (V3 m ρ c main_v3_0 : Vec Ideal S112x32 .f32) (ix2 n o) =
    Net.firstRows (fun i k => (m ((c : Thread nD τ).loc main_arg1) : Vec Ideal S112x8 .f32) (ix2 i k))
      (fun k l => (m ((c : Thread nD τ).loc main_arg2) : Vec Ideal S8x3584 .f32) (ix2 k l))
      (fun o => (m ((c : Thread nD τ).loc main_arg3) : Vec Ideal S32 .f32) (ix1 o)) n o := by
  have e : V3 m ρ c main_v3_0 = (dat0 (V1 m ρ) c).arrAt 5 cfg0.N := (W3_of m ρ c main_v3_0 (by decide)).trans (W2_arr m ρ c 5)
  have e1 : V1 m ρ c main_arg1 = m ((c : Thread nD τ).loc main_arg1) := W1_args m ρ c main_arg1 (by decide)
  have e2 : V1 m ρ c main_v1 = shapeCast S8x112x32 (m ((c : Thread nD τ).loc main_arg2)) shapeCasts_S8x3584_S8x112x32 := by
    show W1 m ρ c (Proc.devRef .tc main_v1) = _
    after_results
    rfl
  have e3 : V1 m ρ c main_v2 = shapeCast S1x32 (m ((c : Thread nD τ).loc main_arg3)) shapeCasts_S32_S1x32 := by
    show W1 m ρ c (Proc.devRef .tc main_v2) = _
    after_results
    rfl
  rw [e, rows_array, e1, e2, e3]
  unfold nodeRow Net.firstRows
  pointwise

/-- The second layer's weights as the second region finds them. -/
theorem weights_held (n : Fin 56) (k o : Fin 32) : (V3 m ρ c main_v4 : Vec Ideal S56x32x32 .f32) (ix3 n k o) =
    Net.secondWeights (fun i k => (m ((c : Thread nD τ).loc main_arg6) : Vec Ideal S56x8 .f32) (ix2 i k))
      (fun k l => (m ((c : Thread nD τ).loc main_arg7) : Vec Ideal S8x1024 .f32) (ix2 k l)) n k o := by
  have e : V3 m ρ c main_v4 = shapeCast S56x32x32 ((dat0 (V1 m ρ) c).arrAt 6 cfg0.N) shapeCasts_S56x1024_S56x32x32 := by
    rw [← W2_arr m ρ c 6]
    show W3 m ρ c (Proc.devRef .tc main_v4) = _
    after_results
    rfl
  have e1 : V1 m ρ c main_arg6 = m ((c : Thread nD τ).loc main_arg6) := W1_args m ρ c main_arg6 (by decide)
  have e2 : V1 m ρ c main_arg7 = m ((c : Thread nD τ).loc main_arg7) := W1_args m ρ c main_arg7 (by decide)
  rw [e]
  pointwise
  rw [weights_array, e1, e2]
  unfold secondProduct Net.secondWeights
  rfl

end Cert.KernelIdeal.Body

end
-- ==== Proof.Adjacency.lean ====
/- A sample's kept adjacency over the extended reals, at an index. -/
module

public import proofs.«01_k».proof.Proof.Choose

@[expose] public section

set_option maxRecDepth 16384

noncomputable section

namespace Cert.KernelIdeal.Body

open Idealize.ShloMosaic Idealize.ShloMosaic.TcCoe Idealize.SL.Sem Cert.KernelIdeal Cert.KernelIdeal.Gen

set_option maxHeartbeats 4000000 in
/-- The chosen nodes' adjacency over its row sums. -/
theorem adjacency_apply (a : FVec Ideal S112x112 .f32) (sc : FVec Ideal S112x1 .f32) (p q : Fin 56) :
    adjacency a sc (ix2 p q) = Net.keep (by decide) (fun i j => a (ix2 i j)) (scores sc) p q := by
  have e := chosen_apply sc
  unfold adjacency k1_pay16 k1_pay15
  pointwise
  simp only [e, column_word, (node (scores sc) p).isLt, (node (scores sc) _).isLt, dif_pos]
  rfl

end Cert.KernelIdeal.Body

end
-- ==== Proof.Head.lean ====
/- The second half of a sample's computation over the extended reals. -/
module

public import proofs.«01_k».proof.Proof.Choose

@[expose] public section

set_option maxRecDepth 16384

noncomputable section

namespace Cert.KernelIdeal.Body

open Idealize.ShloMosaic Idealize.ShloMosaic.TcCoe Idealize.SL.Sem Cert.KernelIdeal Cert.KernelIdeal.Gen

/-- A sum over the nodes of a row times the masked score, the mask one at the nodes of rank below 28, is the sum over the first 28
    places. -/
theorem masked_sum (S : Fin 56 → Fin 32 → EReal) (V : Fin 56 → EReal) (o : Fin 32) :
    (∑ x : Fin 56, S x o * (V x * (FloatOps.sitofp .f32 (BitVec.setWidth 32 (IntOp.cmpi .slt
      (Finset.univ.fold IntOp.addi (0#32) (fun j : Fin 56 => BitVec.setWidth 32
        (IntOp.ori (BitVec.ofBool (decide (V x < V j)))
          (IntOp.andi (BitVec.ofBool (decide (V j = V x)))
            (IntOp.cmpi .slt (BitVec.ofNat 32 j.val) (BitVec.ofNat 32 x.val)))))) 28#32)) : Ideal .f32)))
      = ∑ p : Fin 28, Net.pool (by decide) S V p o := by
  have e : ∀ x : Fin 56, S x o * (V x * (if Net.rank V x < 28 then (1 : EReal) else 0))
      = if Net.rank V x < 28 then S x o * V x else 0 := fun x => by split <;> simp
  simp only [Net.rank_word (n := 56) (by decide) V, Net.top_flag (n := 56) (by decide) V _ 28 (by decide)]
  exact (Finset.sum_congr rfl fun x _ => e x).trans (Net.sum_rank_lt V 28 (by decide) fun x => S x o * V x)

set_option maxHeartbeats 4000000 in
/-- The sample's result. -/
theorem result_apply (b2 : FVec Ideal S1x32 .f32) (w : Vec Ideal S32x1 .f32) (b : FVec Ideal S1x1 .f32) (f1 : Vec Ideal S32x16 .f32)
    (g1 : FVec Ideal S1x16 .f32) (f2 : Vec Ideal S16x1 .f32) (g2 : FVec Ideal S1x1 .f32) (h : Vec Ideal S56x1x32 .f32)
    (a : Vec Ideal S56x56 .f32) :
    result b2 w b f1 g1 f2 g2 h a (ix2 0 0) =
      Net.head (fun o => b2 (ix2 0 o)) (fun o => w (ix2 o 0)) (b (ix2 0 0)) (fun o j => f1 (ix2 o j)) (fun j => g1 (ix2 0 j))
        (fun j => f2 (ix2 j 0)) (g2 (ix2 0 0)) (fun i o => h (ix3 i 0 o)) (fun i j => a (ix2 i j)) := by
  unfold result k1_pay204 k1_pay203
  pointwise
  refine congrArg (· + _) (Finset.sum_congr rfl fun x _ => congrArg (max · 0 * _) (congrArg (· + _)
    (Finset.sum_congr rfl fun o _ => congrArg (Ideal.div · _ * _) ?_)))
  exact masked_sum (Net.conv (fun i j => a (ix2 i j)) fun i o => h (ix3 i 0 o) + b2 (ix2 0 o))
    (Net.score (Net.conv (fun i j => a (ix2 i j)) fun i o => h (ix3 i 0 o) + b2 (ix2 0 o)) (fun o => w (ix2 o 0)) (b (ix2 0 0))) o

end Cert.KernelIdeal.Body

end
-- ==== Proof.Stores.lean ====
/- One step of the second region over the extended reals, store by store: what the kept rows, their products with the weights, the
   kept adjacency and the results are at an index, read back from the stores. -/
module

public import proofs.«01_k».proof.Proof.Rows
public import proofs.«01_k».proof.Proof.Adjacency
public import proofs.«01_k».proof.Proof.Head

@[expose] public section

set_option maxRecDepth 16384

noncomputable section

namespace Cert.KernelIdeal.Body

open Idealize.ShloMosaic Idealize.ShloMosaic.TcCoe Idealize.SL.Sem Cert.KernelIdeal Cert.KernelIdeal.Gen

variable (c : Dev nD) (i : grid1.Coords) (arg1 : Memref sig .tc .vmem S1792x112 .f32) (harg1 : arg1.IsWhole)
  (arg2 : Memref sig .tc .vmem S112x32 .f32) (harg2 : arg2.IsWhole) (arg3 : Memref sig .tc .vmem S56x32x32 .f32) (harg3 : arg3.IsWhole)
  (arg4 : Memref sig .tc .vmem S1x32 .f32) (harg4 : arg4.IsWhole) (arg5 : Memref sig .tc .vmem S32x1 .f32) (harg5 : arg5.IsWhole)
  (arg6 : Memref sig .tc .vmem S1x1 .f32) (harg6 : arg6.IsWhole) (arg7 : Memref sig .tc .vmem S32x1 .f32) (harg7 : arg7.IsWhole)
  (arg8 : Memref sig .tc .vmem S1x1 .f32) (harg8 : arg8.IsWhole) (arg9 : Memref sig .tc .vmem S32x16 .f32) (harg9 : arg9.IsWhole)
  (arg10 : Memref sig .tc .vmem S1x16 .f32) (harg10 : arg10.IsWhole) (arg11 : Memref sig .tc .vmem S16x1 .f32) (harg11 : arg11.IsWhole)
  (arg12 : Memref sig .tc .vmem S1x1 .f32) (harg12 : arg12.IsWhole) (arg13 : Memref sig .tc .vmem S16x1 .f32) (harg13 : arg13.IsWhole)
  (arg14 : Memref sig .tc .vmem S56x16x32 .f32) (harg14 : arg14.IsWhole) (arg15 : Memref sig .tc .vmem S56x16x32 .f32)
  (harg15 : arg15.IsWhole) (arg16 : Memref sig .tc .vmem S896x56 .f32) (harg16 : arg16.IsWhole)
  (x0 : Vec Ideal S1792x112 .f32) (x1 : Vec Ideal S112x32 .f32) (x2 : Vec Ideal S56x32x32 .f32) (x3 : Vec Ideal S1x32 .f32)
  (x4 : Vec Ideal S32x1 .f32) (x5 : Vec Ideal S1x1 .f32) (x6 : Vec Ideal S32x1 .f32) (x7 : Vec Ideal S1x1 .f32)
  (x8 : Vec Ideal S32x16 .f32) (x9 : Vec Ideal S1x16 .f32) (x10 : Vec Ideal S16x1 .f32) (x11 : Vec Ideal S1x1 .f32)

/-- Sample `s`'s kept rows. -/
def sampleRowsKept (s : Fin 16) : Fin 56 → Fin 32 → EReal :=
  Net.pool (by decide) (sampleConv x0 x1 s) (sampleScores x0 x1 x4 x5 s)

/-- Sample `s`'s kept adjacency. -/
def sampleKept (s : Fin 16) : Fin 56 → Fin 56 → EReal :=
  Net.keep (by decide) (sampleRows x0 s) (sampleScores x0 x1 x4 x5 s)

/-- Sample `s`'s kept rows times the second layer's weights. -/
def sampleWeighed (s : Fin 16) : Fin 56 → Fin 32 → EReal :=
  Net.weigh (sampleRowsKept x0 x1 x4 x5 s) fun n k o => x2 (ix3 n k o)

/-- Where a sample's block of kept rows lies. -/
theorem emb_hid (s : Fin 16) (a : Fin 56) (d : Fin 32) :
    (Rect.unit (s := S56x16x32) ![0, s.val, 0] ![56, 1, 32] (inbHid s)).emb (ix3 a 0 d) = ix3 a s d := by
  funext z; apply Fin.ext; rw [Rect.emb_apply]
  fin_cases z <;> simp [Rect.unit]

/-- Where a node's block of kept rows lies. -/
theorem emb_node (n : Fin 56) (a : Fin 16) (d : Fin 32) :
    (Rect.unit (s := S56x16x32) ![n.val, 0, 0] ![1, 16, 32] (inbNode n)).emb (ix3 0 a d) = ix3 n a d := by
  funext z; apply Fin.ext; rw [Rect.emb_apply]
  fin_cases z <;> simp [Rect.unit]

/-- Where a node's weights lie. -/
theorem emb_weights (n : Fin 56) (a d : Fin 32) :
    (Rect.unit (s := S56x32x32) ![n.val, 0, 0] ![1, 32, 32] (inbW n)).emb (ix3 0 a d) = ix3 n a d := by
  funext z; apply Fin.ext; rw [Rect.emb_apply]
  fin_cases z <;> simp [Rect.unit]

/-- Where a sample's kept adjacency lies. -/
theorem emb_kept (s : Fin 16) (a d : Fin 56) :
    (Rect.unit (s := S896x56) ![56 * s.val, 0] ![56, 56] (inbX s)).emb (ix2 a d) = ix2 ⟨56 * s.val + a.val, by omega⟩ d := by
  funext z; apply Fin.ext; rw [Rect.emb_apply]
  fin_cases z <;> simp [Rect.unit]

/-- Where a sample's result lies. -/
theorem emb_out (s : Fin 16) :
    (Rect.unit (s := S16x1) ![s.val, 0] ![1, 1] (inbOut s)).emb (ix2 0 0) = ix2 s 0 := by
  funext z; apply Fin.ext; rw [Rect.emb_apply]
  fin_cases z <;> simp [Rect.unit]

/-- The stored kept rows, node by node and sample by sample. -/
theorem pooled_stored (n : Fin 56) (s : Fin 16) (k : Fin 32) :
    View.canon (kernelRun1_A.sl.HS0_16 c arg1 harg1 arg2 harg2 arg5 harg5 arg6 harg6 x0 x1 x4 x5) (ix3 n s k) =
      sampleRowsKept x0 x1 x4 x5 s n k := by
  rw [pooled_pieces]
  let G : S56x16x32.Idx → EReal := fun y => sampleRowsKept x0 x1 x4 x5 (y 1) (y 0) (y 2)
  refine (canon_down (s := S56x16x32) (pooledPiece c arg1 harg1 arg2 harg2 arg5 harg5 arg6 harg6 x0 x1 x4 x5) G ?_ s
    (ix3 n s k) ?_).trans rfl
  · intro s x
    obtain ⟨a, b, d, rfl⟩ : ∃ (a : Fin 56) (b : Fin 1) (d : Fin 32), x = ix3 a b d := ⟨x 0, x 1, x 2, eq_ix3 x⟩
    obtain rfl : b = 0 := Subsingleton.elim _ _
    refine (pooled_apply _ _ a d).trans (Eq.trans ?_ (congrArg G (emb_hid s a d)).symm)
    rw [scores_scoreOf]
    simp only [convOf_apply]
    rfl
  · refine (Rect.mem_set_unit (inb := inbHid s)).mpr fun z => ?_
    fin_cases z <;> simp

/-- The stored kept adjacencies, sample by sample. -/
theorem adjacency_stored (s : Fin 16) (p q : Fin 56) :
    View.canon (kernelRun1_A.sl.HS2_16 c arg1 harg1 arg2 harg2 arg5 harg5 arg6 harg6 x0 x1 x4 x5)
      (ix2 ⟨56 * s.val + p.val, by omega⟩ q) = sampleKept x0 x1 x4 x5 s p q := by
  rw [adjacency_pieces]
  let G : S896x56.Idx → EReal := fun y => sampleKept x0 x1 x4 x5 ⟨(y 0).val / 56, Nat.div_lt_of_lt_mul (y 0).isLt⟩
    ⟨(y 0).val % 56, Nat.mod_lt _ (by decide)⟩ (y 1)
  have hG : ∀ (s : Fin 16) (p q : Fin 56), G (ix2 ⟨56 * s.val + p.val, by omega⟩ q) = sampleKept x0 x1 x4 x5 s p q := by
    intro s p q
    have e1 : (56 * s.val + p.val) / 56 = s.val := by omega
    have e2 : (56 * s.val + p.val) % 56 = p.val := by omega
    show sampleKept x0 x1 x4 x5 ⟨(56 * s.val + p.val) / 56, _⟩ ⟨(56 * s.val + p.val) % 56, _⟩ q = _
    congr
  refine (canon_down (s := S896x56) (adjacencyPiece c arg1 harg1 arg2 harg2 arg5 harg5 arg6 harg6 x0 x1 x4 x5) G ?_ s
    (ix2 ⟨56 * s.val + p.val, by omega⟩ q) ?_).trans (hG s p q)
  · intro s x
    obtain ⟨a, d, rfl⟩ : ∃ (a : Fin 56) (d : Fin 56), x = ix2 a d := ⟨x 0, x 1, eq_ix2 x⟩
    refine (adjacency_apply _ _ a d).trans (Eq.trans ?_ (congrArg G (emb_kept s a d)).symm)
    rw [hG, scores_scoreOf]
    simp only [rowsOf_apply]
    rfl
  · refine (Rect.mem_set_unit (inb := inbX s)).mpr fun z => ?_
    fin_cases z <;> simp

/-- The stored products with the second layer's weights, node by node and sample by sample. -/
theorem node_stored (n : Fin 56) (s : Fin 16) (o : Fin 32) :
    View.canon (kernelRun1_A.sl.HS1_56 c arg1 harg1 arg2 harg2 arg3 harg3 arg5 harg5 arg6 harg6 arg14 x0 x1 x2 x4 x5)
      (ix3 n s o) = sampleWeighed x0 x1 x2 x4 x5 s n o := by
  rw [node_pieces]
  let G : S56x16x32.Idx → EReal := fun y => sampleWeighed x0 x1 x2 x4 x5 (y 1) (y 0) (y 2)
  refine (canon_down (s := S56x16x32)
    (nodePiece c arg1 harg1 arg2 harg2 arg3 harg3 arg5 harg5 arg6 harg6 arg14 x0 x1 x2 x4 x5) G ?_ n (ix3 n s o) ?_).trans rfl
  · intro n x
    obtain ⟨b, a, d, rfl⟩ : ∃ (b : Fin 1) (a : Fin 16) (d : Fin 32), x = ix3 b a d := ⟨x 0, x 1, x 2, eq_ix3 x⟩
    obtain rfl : b = 0 := Subsingleton.elim _ _
    refine (nodeProduct_apply _ _ a d).trans (Eq.trans ?_ (congrArg G (emb_node n a d)).symm)
    show _ = ∑ k : Fin 32, sampleRowsKept x0 x1 x4 x5 a n k * x2 (ix3 n k d)
    refine Finset.sum_congr rfl fun k _ => ?_
    rw [View.readCov_eq_canon', load_part]
    refine congrArg₂ (· * ·) ?_ ?_
    · exact (congrArg _ (emb_node n a k)).trans
        (pooled_stored c arg1 harg1 arg2 harg2 arg5 harg5 arg6 harg6 x0 x1 x4 x5 n a k)
    · exact congrArg x2 (emb_weights n k d)
  · refine (Rect.mem_set_unit (inb := inbNode n)).mpr fun z => ?_
    fin_cases z <;> simp

/-- Sample `s`'s result. -/
def sampleResult (s : Fin 16) : EReal :=
  Net.head (fun o => x3 (ix2 0 o)) (fun k => x6 (ix2 k 0)) (x7 (ix2 0 0)) (fun k j => x8 (ix2 k j)) (fun j => x9 (ix2 0 j))
    (fun j => x10 (ix2 j 0)) (x11 (ix2 0 0)) (sampleWeighed x0 x1 x2 x4 x5 s) (sampleKept x0 x1 x4 x5 s)

/-- The second layer's bias, as loaded. -/
theorem bias_load : kernelRun1_A.sl.r_3 c arg4 harg4 x3 = x3 := by
  unfold kernelRun1_A.sl.r_3 k1_pay4
  rw [load_whole]
  exact shapeCast_self _ _

/-- The second scores' weights, as loaded. -/
theorem weights_load : kernelRun1_A.sl.r_4 c arg7 harg7 x6 = x6 := by
  unfold kernelRun1_A.sl.r_4
  exact load_whole _ _ _ _ _

/-- The second scores' bias, as loaded. -/
theorem score_load : kernelRun1_A.sl.r_5 c arg8 harg8 x7 = x7 := by
  unfold kernelRun1_A.sl.r_5 k1_pay5
  rw [load_whole]
  exact shapeCast_self _ _

/-- The first dense layer's weights, as loaded. -/
theorem dense_load : kernelRun1_A.sl.r_6 c arg9 harg9 x8 = x8 := by
  unfold kernelRun1_A.sl.r_6
  exact load_whole _ _ _ _ _

/-- The first dense layer's bias, as loaded. -/
theorem denseBias_load : kernelRun1_A.sl.r_7 c arg10 harg10 x9 = x9 := by
  unfold kernelRun1_A.sl.r_7 k1_pay6
  rw [load_whole]
  exact shapeCast_self _ _

/-- The last layer's weights, as loaded. -/
theorem last_load : kernelRun1_A.sl.r_8 c arg11 harg11 x10 = x10 := by
  unfold kernelRun1_A.sl.r_8
  exact load_whole _ _ _ _ _

/-- The last layer's bias, as loaded. -/
theorem lastBias_load : kernelRun1_A.sl.r_9 c arg12 harg12 x11 = x11 := by
  unfold kernelRun1_A.sl.r_9 k1_pay7
  rw [load_whole]
  exact shapeCast_self _ _

/-- A sample's stored result is the sample's result. -/
theorem resultPiece_apply (s : Fin 16) :
    (resultPiece c arg1 harg1 arg2 harg2 arg3 harg3 arg4 harg4 arg5 harg5 arg6 harg6 arg7 harg7 arg8 harg8 arg9 harg9 arg10
      harg10 arg11 harg11 arg12 harg12 arg14 arg15 arg16 x0 x1 x2 x3 x4 x5 x6 x7 x8 x9 x10 x11 s).2 (ix2 0 0) =
      sampleResult x0 x1 x2 x3 x4 x5 x6 x7 x8 x9 x10 x11 s := by
  unfold resultPiece
  rw [bias_load, weights_load, score_load, dense_load, denseBias_load, last_load, lastBias_load]
  refine (result_apply _ _ _ _ _ _ _ _ _).trans ?_
  unfold sampleResult
  refine congrArg₂ (Net.head (fun o => x3 (ix2 0 o)) (fun k => x6 (ix2 k 0)) (x7 (ix2 0 0))
    (fun k j => x8 (ix2 k j)) (fun j => x9 (ix2 0 j)) (fun j => x10 (ix2 j 0)) (x11 (ix2 0 0))) ?_ ?_
  · funext n o
    rw [View.readCov_eq_canon']
    exact (congrArg _ (emb_hid s n o)).trans
        (node_stored c arg1 harg1 arg2 harg2 arg3 harg3 arg5 harg5 arg6 harg6 arg14 x0 x1 x2 x4 x5 n s o)
  · funext p q
    rw [View.readCov_eq_canon']
    exact (congrArg _ (emb_kept s p q)).trans
        (adjacency_stored c arg1 harg1 arg2 harg2 arg5 harg5 arg6 harg6 x0 x1 x4 x5 s p q)

/-- The step's results, sample by sample. -/
theorem result_stored (s : Fin 16) :
    View.canon (kernelRun1_A (F := Ideal) c i arg1 harg1 arg2 harg2 arg3 harg3 arg4 harg4 arg5 harg5 arg6 harg6 arg7 harg7 arg8
      harg8 arg9 harg9 arg10 harg10 arg11 harg11 arg12 harg12 arg13 harg13 arg14 harg14 arg15 harg15 arg16 harg16
      x0 x1 x2 x3 x4 x5 x6 x7 x8 x9 x10 x11).1 (ix2 s 0) = sampleResult x0 x1 x2 x3 x4 x5 x6 x7 x8 x9 x10 x11 s := by
  rw [result_pieces]
  let G : S16x1.Idx → EReal := fun y => sampleResult x0 x1 x2 x3 x4 x5 x6 x7 x8 x9 x10 x11 (y 0)
  refine (canon_down (s := S16x1)
    (resultPiece c arg1 harg1 arg2 harg2 arg3 harg3 arg4 harg4 arg5 harg5 arg6 harg6 arg7 harg7 arg8 harg8 arg9 harg9 arg10
      harg10 arg11 harg11 arg12 harg12 arg14 arg15 arg16 x0 x1 x2 x3 x4 x5 x6 x7 x8 x9 x10 x11) G ?_ s (ix2 s 0) ?_).trans rfl
  · intro s x
    obtain ⟨a, b, rfl⟩ : ∃ (a : Fin 1) (b : Fin 1), x = ix2 a b := ⟨x 0, x 1, eq_ix2 x⟩
    obtain rfl : a = 0 := Subsingleton.elim _ _
    obtain rfl : b = 0 := Subsingleton.elim _ _
    exact (resultPiece_apply c arg1 harg1 arg2 harg2 arg3 harg3 arg4 harg4 arg5 harg5 arg6 harg6 arg7 harg7 arg8 harg8 arg9 harg9
      arg10 harg10 arg11 harg11 arg12 harg12 arg14 arg15 arg16 x0 x1 x2 x3 x4 x5 x6 x7 x8 x9 x10 x11 s).trans
      (congrArg G (emb_out s)).symm
  · refine (Rect.mem_set_unit (inb := inbOut s)).mpr fun z => ?_
    fin_cases z <;> simp

/-- A sample's result is the network's value at the sample's matrix. -/
theorem sampleResult_eq (s : Fin 16) : sampleResult x0 x1 x2 x3 x4 x5 x6 x7 x8 x9 x10 x11 s =
    Net.net (fun n k => x1 (ix2 n k)) (fun n k o => x2 (ix3 n k o)) (fun k => x4 (ix2 k 0)) (x5 (ix2 0 0)) (fun o => x3 (ix2 0 o))
      (fun k => x6 (ix2 k 0)) (x7 (ix2 0 0)) (fun k j => x8 (ix2 k j)) (fun j => x9 (ix2 0 j)) (fun j => x10 (ix2 j 0))
      (x11 (ix2 0 0)) (sampleRows x0 s) := rfl

end Cert.KernelIdeal.Body

end
-- ==== Proof.Second.lean ====
/- What the second region leaves: the kernel's result, the network's value at each sample of the arguments. -/
module

public import proofs.«01_k».proof.Proof.First
public import proofs.«01_k».proof.Proof.Stores

@[expose] public section

set_option maxRecDepth 16384

noncomputable section

namespace Cert.KernelIdeal.Body

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b)) (c : Dev nD)

/-- The network's value at sample `b` of the arrays that the second region reads. -/
def valueRead (v0 : Vec Ideal S458752x112 .f32) (x1 : Vec Ideal S112x32 .f32) (x2 : Vec Ideal S56x32x32 .f32) (x3 : Vec Ideal S1x32 .f32)
    (x4 : Vec Ideal S32x1 .f32) (x5 : Vec Ideal S1x1 .f32) (x6 : Vec Ideal S32x1 .f32) (x7 : Vec Ideal S1x1 .f32)
    (x8 : Vec Ideal S32x16 .f32) (x9 : Vec Ideal S1x16 .f32) (x10 : Vec Ideal S16x1 .f32) (x11 : Vec Ideal S1x1 .f32)
    (b : Fin 4096) : EReal :=
  Net.net (fun n k => x1 (ix2 n k)) (fun n k o => x2 (ix3 n k o)) (fun k => x4 (ix2 k 0)) (x5 (ix2 0 0)) (fun o => x3 (ix2 0 o))
    (fun k => x6 (ix2 k 0)) (x7 (ix2 0 0)) (fun k j => x8 (ix2 k j)) (fun j => x9 (ix2 0 j)) (fun j => x10 (ix2 j 0)) (x11 (ix2 0 0))
    fun i j => v0 (ix2 ⟨b.val * 112 + i.val, by omega⟩ j)

/-- The same read off a region's entry contents. -/
def valueAt (b : Fin 4096) : EReal :=
  valueRead (V c main_v0) (V c main_v3_0) (V c main_v4) (V c main_v5) (V c main_arg4) (V c main_v6) (V c main_arg9) (V c main_v7)
    (V c main_arg11) (V c main_v8) (V c main_arg13) (V c main_v9) b

/-- Sample `s` of grid point `t`. -/
def sampleOf (t : Fin cfg1.N) (s : Fin 16) : Fin 4096 :=
  ⟨t.val * 16 + s.val, by have := t.isLt.trans_eq (N_1 : cfg1.N = 256); omega⟩

/-- A sample's matrix in the block of a grid point is the sample's matrix in the array. -/
theorem sampleRows_block (t : Fin cfg1.N) (s : Fin 16) : sampleRows (iblk1 V c 0 t) s =
    fun i j => (V c main_v0 : Vec Ideal S458752x112 .f32) (ix2 ⟨(sampleOf t s).val * 112 + i.val, by omega⟩ j) := by
  funext i j
  unfold sampleRows
  rw [block1_0]
  refine congrArg (V c main_v0) (congrArg (fun r => ix2 r j) (Fin.ext ?_))
  show t.val * 1792 + (112 * s.val + i.val) = (t.val * 16 + s.val) * 112 + i.val
  omega

/-- The result's staging buffer after a grid point. -/
theorem result_after (t : Fin cfg1.N) (s : Fin 16) : outsAt1 V c t (ix2 s 0) = valueAt V c (sampleOf t s) := by
  unfold outsAt1 out1_A_12
  rw [View.read_writes_junk_eq_canon, result_stored, sampleResult_eq, sampleRows_block, block1_1, block1_2, block1_3, block1_4,
    block1_5, block1_6, block1_7, block1_8, block1_9, block1_10, block1_11]
  rfl

/-- The result's block number. -/
theorem result_index (t : Fin cfg1.N) : win1_12.index t = ![t.val, 0] := samples_index t

/-- The result's array after the second region. -/
theorem result_array : (dat1 V c).arrAt 12 cfg1.N = fun y : S4096x1.Idx => valueAt V c (y 0) := by
  refine (dat1 V c).arrAt_eq_of_covers 12 _ ?_ fun t hf y => ?_
  · decide +kernel
  · blk_simp
    rw [after1_12]
    have hy : y = ix2 ⟨(y 0).val, (y 0).isLt⟩ 0 := Shape.idx_ext₂ rfl (by have h := (y 1).isLt; exact Nat.lt_one_iff.mp h)
    have e : (win1_12.blk t).view.emb y 0 = sampleOf t ⟨(y 0).val, (y 0).isLt⟩ := by
      apply Fin.ext
      blk_simp
      rw [result_index]
      rfl
    rw [e]
    exact (congrArg (outsAt1 V c t) hy).trans (result_after V c t _)

variable (m : (ℓ : Loc nD τ sig) → Buf (Elt Ideal) ℓ) (ρ : Dev nD → PrngReg)

/-- The network's value at sample `b` of the arguments. -/
def valueOf (x0 : Vec Ideal S4096x112x112 .f32) (x1 : Vec Ideal S112x8 .f32) (x2 : Vec Ideal S8x3584 .f32) (x3 : Vec Ideal S32 .f32)
    (x4 : Vec Ideal S32x1 .f32) (x5 : Vec Ideal S1 .f32) (x6 : Vec Ideal S56x8 .f32) (x7 : Vec Ideal S8x1024 .f32) (x8 : Vec Ideal S32 .f32)
    (x9 : Vec Ideal S32x1 .f32) (x10 : Vec Ideal S1 .f32) (x11 : Vec Ideal S32x16 .f32) (x12 : Vec Ideal S16 .f32)
    (x13 : Vec Ideal S16x1 .f32) (x14 : Vec Ideal S1 .f32) (b : Fin 4096) : EReal :=
  Net.net (Net.firstRows (fun i c => x1 (ix2 i c)) (fun c k => x2 (ix2 c k)) fun o => x3 (ix1 o))
    (Net.secondWeights (fun i c => x6 (ix2 i c)) fun c k => x7 (ix2 c k)) (fun k => x4 (ix2 k 0)) (x5 (ix1 0)) (fun o => x8 (ix1 o))
    (fun k => x9 (ix2 k 0)) (x10 (ix1 0)) (fun k j => x11 (ix2 k j)) (fun j => x12 (ix1 j)) (fun j => x13 (ix2 j 0)) (x14 (ix1 0))
    fun i j => x0 (ix3 b i j)

/-- The arguments as the second region's arrays: `r` the first layer's rows, `w` the second layer's weights, every other array an
    argument or an argument's recast. -/
theorem valueRead_eq (x0 : Vec Ideal S4096x112x112 .f32) (x1 : Vec Ideal S112x8 .f32) (x2 : Vec Ideal S8x3584 .f32) (x3 : Vec Ideal S32 .f32)
    (x4 : Vec Ideal S32x1 .f32) (x5 : Vec Ideal S1 .f32) (x6 : Vec Ideal S56x8 .f32) (x7 : Vec Ideal S8x1024 .f32) (x8 : Vec Ideal S32 .f32)
    (x9 : Vec Ideal S32x1 .f32) (x10 : Vec Ideal S1 .f32) (x11 : Vec Ideal S32x16 .f32) (x12 : Vec Ideal S16 .f32)
    (x13 : Vec Ideal S16x1 .f32) (x14 : Vec Ideal S1 .f32) (r : Vec Ideal S112x32 .f32) (w : Vec Ideal S56x32x32 .f32)
    (hr : ∀ n o, r (ix2 n o) = Net.firstRows (fun i c => x1 (ix2 i c)) (fun c k => x2 (ix2 c k)) (fun o => x3 (ix1 o)) n o)
    (hw : ∀ n k o, w (ix3 n k o) = Net.secondWeights (fun i c => x6 (ix2 i c)) (fun c k => x7 (ix2 c k)) n k o) (b : Fin 4096) :
    valueRead (shapeCast S458752x112 x0 shapeCasts_S4096x112x112_S458752x112) r w (shapeCast S1x32 x8 shapeCasts_S32_S1x32) x4
      (shapeCast S1x1 x5 shapeCasts_S1_S1x1) x9 (shapeCast S1x1 x10 shapeCasts_S1_S1x1) x11 (shapeCast S1x16 x12 shapeCasts_S16_S1x16)
      x13 (shapeCast S1x1 x14 shapeCasts_S1_S1x1) b = valueOf x0 x1 x2 x3 x4 x5 x6 x7 x8 x9 x10 x11 x12 x13 x14 b := by
  have e0 : ∀ i j, shapeCast S458752x112 x0 shapeCasts_S4096x112x112_S458752x112 (ix2 ⟨b.val * 112 + i.val, by omega⟩ j) =
      x0 (ix3 b (i : Fin 112) j) := fun i j => by pointwise
  have e3 : ∀ o, shapeCast S1x32 x8 shapeCasts_S32_S1x32 (ix2 0 o) = x8 (ix1 o) := fun o => by pointwise
  have e9 : ∀ o, shapeCast S1x16 x12 shapeCasts_S16_S1x16 (ix2 0 o) = x12 (ix1 o) := fun o => by pointwise
  have e1 : ∀ x : Vec Ideal S1 .f32, shapeCast S1x1 x shapeCasts_S1_S1x1 (ix2 0 0) = x (ix1 0) := fun x => by pointwise
  unfold valueRead valueOf
  simp only [e0, e3, e9, e1, hr, hw]

/-- What the second region reads, as the arguments. -/
theorem read_args (b : Fin 4096) : valueAt (V3 m ρ) c b =
    valueOf (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      (m ((c : Thread nD τ).loc main_arg12)) (m ((c : Thread nD τ).loc main_arg13)) (m ((c : Thread nD τ).loc main_arg14)) b := by
  have e0 : V3 m ρ c main_v0 = shapeCast S458752x112 (m ((c : Thread nD τ).loc main_arg0)) shapeCasts_S4096x112x112_S458752x112 := by
    refine (W3_of m ρ c main_v0 (by decide)).trans ((W2_of m ρ c main_v0 (by decide)).trans ?_)
    after_results
    rfl
  have e3 : V3 m ρ c main_v5 = shapeCast S1x32 (m ((c : Thread nD τ).loc main_arg8)) shapeCasts_S32_S1x32 := by
    rw [← W2_args m ρ c main_arg8 (by decide)]
    show W3 m ρ c (Proc.devRef .tc main_v5) = _
    after_results
    rfl
  have e5 : V3 m ρ c main_v6 = shapeCast S1x1 (m ((c : Thread nD τ).loc main_arg5)) shapeCasts_S1_S1x1 := by
    rw [← W2_args m ρ c main_arg5 (by decide)]
    show W3 m ρ c (Proc.devRef .tc main_v6) = _
    after_results
    rfl
  have e7 : V3 m ρ c main_v7 = shapeCast S1x1 (m ((c : Thread nD τ).loc main_arg10)) shapeCasts_S1_S1x1 := by
    rw [← W2_args m ρ c main_arg10 (by decide)]
    show W3 m ρ c (Proc.devRef .tc main_v7) = _
    after_results
    rfl
  have e9 : V3 m ρ c main_v8 = shapeCast S1x16 (m ((c : Thread nD τ).loc main_arg12)) shapeCasts_S16_S1x16 := by
    rw [← W2_args m ρ c main_arg12 (by decide)]
    show W3 m ρ c (Proc.devRef .tc main_v8) = _
    after_results
    rfl
  have e11 : V3 m ρ c main_v9 = shapeCast S1x1 (m ((c : Thread nD τ).loc main_arg14)) shapeCasts_S1_S1x1 := by
    rw [← W2_args m ρ c main_arg14 (by decide)]
    show W3 m ρ c (Proc.devRef .tc main_v9) = _
    after_results
    rfl
  have a4 : V3 m ρ c main_arg4 = m ((c : Thread nD τ).loc main_arg4) := W3_args m ρ c main_arg4 (by decide)
  have a9 : V3 m ρ c main_arg9 = m ((c : Thread nD τ).loc main_arg9) := W3_args m ρ c main_arg9 (by decide)
  have a11 : V3 m ρ c main_arg11 = m ((c : Thread nD τ).loc main_arg11) := W3_args m ρ c main_arg11 (by decide)
  have a13 : V3 m ρ c main_arg13 = m ((c : Thread nD τ).loc main_arg13) := W3_args m ρ c main_arg13 (by decide)
  unfold valueAt
  rw [e0, e3, e5, e7, e9, e11, a4, a9, a11, a13]
  exact valueRead_eq _ _ _ _ _ _ _ _ _ _ _ _ _ _ _ _ _ (rows_held c m ρ) (weights_held c m ρ) b

end Cert.KernelIdeal.Body

end
-- ==== Proof.Run.lean ====
/- The idealized kernel's run: every unscoped buffer ends at the contents the two regions and the host's recasts leave, so the result
   is the network's value at each sample and the arguments are unchanged. -/
module

public import proofs.«01_k».proof.Proof.Second

@[expose] public section

set_option maxRecDepth 16384

noncomputable section

namespace Cert.KernelIdeal.Body

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

local notation "𝕄" => MT nD τ sig Unit (Elt Ideal) ℕ (UR sig nD τ) ℕ

variable (m : (ℓ : Loc nD τ sig) → Buf (Elt Ideal) ℓ) (ρ : Dev nD → PrngReg)

/-- Every unscoped buffer ends at its contents after the second region. -/
theorem buffers_end : θ_run defs (onTc (τ := τ) (main (F := Ideal))) ⟨m, fun _ => 0, ρ⟩ (fun r => ∀ c : Dev nD,
    ∀ b ∈ Pipeline.ucRefs τ sig, r.2.mem (((c : Thread nD τ)).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h _ => h)

/-- The kernel's result as the arguments: the network's value at each sample. -/
def kernelResult (c : Dev nD) : Buf (Elt Ideal) ((c : Thread nD τ).loc main_v10) := fun y : S4096x1.Idx =>
  valueOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14)) (y 0)

/-- The result's buffer after the second region. -/
theorem result_held (c : Dev nD) : W4 m ρ c (Proc.devRef .tc main_v10) = kernelResult m c :=
  (W4_arr m ρ c 12).trans ((result_array (V3 m ρ) c).trans (funext fun y : S4096x1.Idx => read_args c m ρ (y 0)))

/-- An argument's buffer at the end. -/
theorem arg_held (c : Dev nD) {s : MemSt nD τ sig (Elt Ideal)} (h : ∀ b ∈ Pipeline.ucRefs τ sig, s.mem (((c : Thread nD τ)).1, b) = W4 m ρ c b)
    (a : Ref sig .tc) (ha : a ∈ argRefs) (hs : ¬ (Proc.devRef .tc a : DevRef τ sig).isScoped) :
    s.mem ((c : Thread nD τ).loc a) = m ((c : Thread nD τ).loc a) :=
  (h _ (mem_uc a hs)).trans (W4_args m ρ c a ha)

end Cert.KernelIdeal.Body

end
-- ==== Proof.RefFirst.lean ====
/- The reference up to the first scores, at an index. -/
module

public import proofs.«01_k».proof.Proof.Gen.ReferenceIdeal.Read
public import proofs.«01_k».proof.Proof.Spec
public import Idealize.ShloMosaic.Lib.Pointwise

@[expose] public section

set_option maxRecDepth 16384

noncomputable section

namespace Cert.ReferenceIdeal.Stage

open Cert.ReferenceIdeal Cert.ReferenceIdeal.Gen Cert.ReferenceIdeal.Read Idealize.ShloMosaic Idealize.ShloMosaic.TcCoe
  Idealize.SL.Sem Idealize.ShloMosaic.StableHlo

variable (x0 : Vec Ideal S4096x112x112 .f32) (x1 : Vec Ideal S112x8 .f32) (x2 : Vec Ideal S8x3584 .f32) (x3 : Vec Ideal S32 .f32)
  (x4 : Vec Ideal S32x1 .f32) (x5 : Vec Ideal S1 .f32)

/-- The unit matrix at an index. -/
theorem unit_apply (i j : Fin 112) : val_main_v5 (F := Ideal) (ix2 i j) = if i = j then (1 : EReal) else 0 := by
  unfold val_main_v5 val_main_v4 val_main_v3 val_main_v2 val_main_v1 val_main_v0 val_main_c
  pointwise
  rw [show ∀ w : BitVec 32, IntOp.addi w 0#32 = w from fun w => BitVec.add_zero w]
  have e : (BitVec.ofNat 32 i.val = BitVec.ofNat 32 j.val) ↔ i = j := by
    refine ⟨fun h => Fin.ext ?_, fun h => by rw [h]⟩
    have := congrArg BitVec.toNat h
    simp only [BitVec.toNat_ofNat] at this
    omega
  by_cases h : i = j
  · subst h
    simp [IntOp.cmpi, FloatOps.uitofp]
  · have h2 := beq_eq_false_iff_ne.mpr (mt e.mp h)
    simp [IntOp.cmpi, FloatOps.uitofp, h, h2]

/-- The first layer's rows. -/
def first : Fin 112 → Fin 32 → EReal :=
  Net.firstRows (fun i c => x1 (ix2 i c)) (fun c k => x2 (ix2 c k)) fun o => x3 (ix1 o)

theorem first_apply (b : Fin 4096) (i : Fin 112) (o : Fin 32) : val_main_v13 (F := Ideal) x1 x2 x3 (ix3 b i o) = first x1 x2 x3 i o := by
  unfold val_main_v13 val_main_v12 val_main_v11 val_main_v10 val_main_v9 val_main_v8 val_main_v7 val_main_v6
  pointwise
  simp only [unit_apply, mul_ite, mul_one, mul_zero, Finset.sum_ite_eq, Finset.mem_univ, if_true]
  rfl

theorem conv_apply (b : Fin 4096) (i : Fin 112) (k : Fin 32) : val_main_v16 (F := Ideal) x0 x1 x2 x3 (ix3 b i k) =
    Net.conv (fun i j => x0 (ix3 b i j)) (first x1 x2 x3) i k := by
  unfold val_main_v16 val_main_v15 val_main_v14 val_main_call0_v0 val_main_call0_cst
  pointwise
  simp only [first_apply]
  rfl

theorem score_apply (b : Fin 4096) (i : Fin 112) : val_main_v27 (F := Ideal) x0 x1 x2 x3 x4 x5 (ix2 b i) =
    Net.score (fun i k => val_main_v16 (F := Ideal) x0 x1 x2 x3 (ix3 b i k)) (fun k => x4 (ix2 k 0)) (x5 (ix1 0)) i := by
  unfold val_main_v27 val_main_v26 val_main_v25 val_main_v24 val_main_v23 val_main_v22 val_main_v21 val_main_v20 val_main_v19
    val_main_v18 val_main_v17 val_main_cst val_main_cst_0
  pointwise
  rfl

end Cert.ReferenceIdeal.Stage

end
-- ==== Proof.Take.lean ====
/- The reference's top-k and its gathers along an axis, at an index: the positions a stable sort by "greater" puts first are the
   entries at the first places, and a gather whose index is a small number reads that row or column. -/
module

public import proofs.«01_k».proof.Proof.Words
public import Idealize.ShloMosaic.Lib.SortFacts
public import Idealize.ShloMosaic.Lib.ValueIdx
public import Idealize.ShloMosaic.PureOps.Ideal.Laws

@[expose] public section

noncomputable section

namespace Cert.Net

open Idealize.ShloMosaic

variable {n : Nat}

/-- Inserting an entry into later entries compares only values: an equal later entry stays behind. -/
theorem sort_gt (v : Fin n → EReal) (B : Fin n → Fin n → Bool) (hB : ∀ i j, B i j = decide (v j < v i)) (l : List (Fin n))
    (hl : l.Pairwise (· < ·)) : stableSort B l = stableSort (before v) l := by
  induction l with
  | nil => rfl
  | cons a l ih =>
    rw [List.pairwise_cons] at hl
    unfold stableSort
    rw [ih hl.2]
    refine insertBefore_congr _ _ a _ fun b hb => ?_
    have hab : a < b := hl.1 b ((perm_stableSort (before v) l).mem_iff.mp hb)
    rw [hB, before_eq]
    have : ¬ b < a := not_lt.mpr hab.le
    simp [this]

/-- The position a stable sort by "greater" puts at a place is the entry at that place. -/
theorem sorted_pick (v : Fin n → EReal) (B : Fin n → Fin n → Bool) (hB : ∀ i j, B i j = decide (v j < v i)) (p : Fin n) :
    sortedFrom B p = pick v p := by
  rw [pick_eq]
  unfold sortedFrom sortPositions
  exact List.get_of_eq (sort_gt v B hB _ (List.pairwise_lt_finRange n)) _

/-- A row's index with the column replaced. -/
theorem along_row {r : Nat} (b : Fin r) (i k : Fin n) :
    Shape.Idx.along (s := ⟨2, ![r, n]⟩) (ix2 b i) (1 : Fin 2) k = ix2 b k := by
  funext z
  match z with
  | ⟨0, _⟩ => exact Function.update_of_ne (fun h => absurd (congrArg Fin.val h) Nat.zero_ne_one) _ _
  | ⟨1, _⟩ => exact Function.update_self _ _ _

/-- The position of a row's top-k at a place. -/
theorem topK_position {r : Nat} (x : FVec Ideal ⟨2, ![r, n]⟩ .f32) (b : Fin r) (i : Fin n) :
    sortedFrom (fun k k' => FloatOps.cmpfTotal (F := Ideal) .gt (x (Shape.Idx.along (s := ⟨2, ![r, n]⟩) (ix2 b i) (1 : Fin 2) k))
      (x (Shape.Idx.along (s := ⟨2, ![r, n]⟩) (ix2 b i) (1 : Fin 2) k')) == 1#1) i = pick (fun i => x (ix2 b i)) i := by
  refine sorted_pick (fun i => x (ix2 b i)) _ (fun k k' => ?_) i
  rw [along_row, along_row, Ideal.cmpfTotal_def]
  by_cases h : x (ix2 b k') < x (ix2 b k) <;> simp [Ideal.cmp, CmpDirection.ordered, h]

/-- The top-k of a row at a place: the score of the entry at that place, and the entry's number. -/
theorem topK_apply {m r : Nat} (hm : m ≤ n) (x : FVec Ideal ⟨2, ![r, n]⟩ .f32) (h : (⟨2, ![r, n]⟩ : Shape).Slices (fun _ => 0) ⟨2, ![r, m]⟩)
    (b : Fin r) (p : Fin m) :
    (Host.topK ⟨2, ![r, m]⟩ 1 (FloatOps.cmpfTotal .gt) x h).1 (ix2 b p) = x (ix2 b (pick (fun i => x (ix2 b i)) (p.castLE hm))) ∧
    (Host.topK ⟨2, ![r, m]⟩ 1 (FloatOps.cmpfTotal .gt) x h).2 (ix2 b p) =
      BitVec.ofNat 32 (pick (fun i => x (ix2 b i)) (p.castLE hm)).val := by
  have e := topK_position x b (p.castLE hm)
  constructor
  · unfold Host.topK
    dsimp only
    refine (extractStridedSlice_apply _ _ h (ix2 b p) (ix2 b (p.castLE hm)) fun a => ?_).trans ?_
    · fin_cases a <;> simp
    · exact (congrArg (fun k : Fin n => x (Shape.Idx.along (s := ⟨2, ![r, n]⟩) (ix2 b (p.castLE hm)) (1 : Fin 2) k)) e).trans
        (congrArg x (along_row b _ _))
  · unfold Host.topK
    dsimp only
    refine (extractStridedSlice_apply _ _ h (ix2 b p) (ix2 b (p.castLE hm)) fun a => ?_).trans ?_
    · fin_cases a <;> simp
    · exact congrArg (fun k : Fin n => BitVec.ofNat 32 k.val) e

/-- Rows taken along the middle axis, one number for each output row. -/
def rowDims (B N C m : Nat) (wf : GatherDims.WF ⟨3, ![B, N, C]⟩ ⟨3, ![B, m, 1]⟩ ⟨3, ![B, m, C]⟩ [2] [1] [0] [1] [0] 2 ![1, 1, C]) :
    GatherDims ⟨3, ![B, N, C]⟩ ⟨3, ![B, m, 1]⟩ ⟨3, ![B, m, C]⟩ where
  offsetDims := [2]
  collapsedSliceDims := [1]
  operandBatchingDims := [0]
  startIndicesBatchingDims := [0]
  startIndexMap := [1]
  indexVectorDim := 2
  sliceSizes := ![1, 1, C]
  wf := wf

/-- Columns taken along the last axis, one number for each output column. -/
def columnDims (B R N m : Nat) (wf : GatherDims.WF ⟨3, ![B, R, N]⟩ ⟨3, ![B, m, 1]⟩ ⟨3, ![B, R, m]⟩ [1] [2] [0] [2] [0] 2 ![1, R, 1]) :
    GatherDims ⟨3, ![B, R, N]⟩ ⟨3, ![B, m, 1]⟩ ⟨3, ![B, R, m]⟩ where
  offsetDims := [1]
  collapsedSliceDims := [2]
  operandBatchingDims := [0]
  startIndicesBatchingDims := [0]
  startIndexMap := [2]
  indexVectorDim := 2
  sliceSizes := ![1, R, 1]
  wf := wf

/-- A small number's word, read signed and cut to the last row, is the number. -/
theorem cut_word {N : Nat} (hN : N < 2 ^ 31) (c : Fin N) : min (BitVec.ofNat 32 c.val).toInt.toNat (N - 1) = c.val := by
  rw [toInt_word _ (by omega)]
  omega

/-- A taken row at an index. -/
theorem takeRow_apply {B N C m : Nat} {α : Type} (hN : N < 2 ^ 31) (wf) (x : (⟨3, ![B, N, C]⟩ : Shape).Idx → α)
    (idx : IVec ⟨3, ![B, m, 1]⟩ 32) (b : Fin B) (p : Fin m) (k : Fin C) (c : Fin N) (hc : idx (ix3 b p 0) = BitVec.ofNat 32 c.val) :
    Host.gather (rowDims B N C m wf) x idx (ix3 b p k) = x (ix3 b c k) := by
  unfold Host.gather
  congr 1
  funext a
  refine Fin.ext ?_
  show (rowDims B N C m wf).start (ix3 b p k) idx a + (rowDims B N C m wf).batchCoord (ix3 b p k) a
      + (rowDims B N C m wf).offCoord (ix3 b p k) a = _
  match a with
  | ⟨0, _⟩ =>
    show (rowDims B N C m wf).start (ix3 b p k) idx (0 : Fin 3) + (rowDims B N C m wf).batchCoord (ix3 b p k) (0 : Fin 3)
      + (rowDims B N C m wf).offCoord (ix3 b p k) (0 : Fin 3) = b.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ (rowDims B N C m wf).operandBatchingDims from List.mem_singleton.mpr rfl)]
    rfl
  | ⟨1, _⟩ =>
    show (rowDims B N C m wf).start (ix3 b p k) idx (1 : Fin 3) + (rowDims B N C m wf).batchCoord (ix3 b p k) (1 : Fin 3)
      + (rowDims B N C m wf).offCoord (ix3 b p k) (1 : Fin 3) = c.val
    rw [GatherDims.batchCoord_eq_zero _ _ _ (fun h => by simp [rowDims] at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (rowDims B N C m wf).startIndexMap from List.mem_singleton.mpr rfl)]
    have hsi : (rowDims B N C m wf).siIdx (ix3 b p k) ⟨List.idxOf (1 : Fin 3) (rowDims B N C m wf).startIndexMap,
        List.idxOf_lt_length_iff.2 (List.mem_singleton.mpr rfl)⟩ = ix3 b p 0 := by
      funext z; refine Fin.ext ?_
      match z with
      | ⟨0, _⟩ => rfl
      | ⟨1, _⟩ => rfl
      | ⟨2, _⟩ => rfl
    rw [hsi, hc]
    exact cut_word hN c
  | ⟨2, _⟩ =>
    show (rowDims B N C m wf).start (ix3 b p k) idx (2 : Fin 3) + (rowDims B N C m wf).batchCoord (ix3 b p k) (2 : Fin 3)
      + (rowDims B N C m wf).offCoord (ix3 b p k) (2 : Fin 3) = k.val
    rw [GatherDims.batchCoord_eq_zero _ _ _ (fun h => by simp [rowDims] at h)]
    unfold GatherDims.start GatherDims.offCoord
    rw [dif_neg (fun h => by simp [rowDims] at h),
      dif_pos ((GatherDims.mem_sKept _ _).mpr ⟨by simp [rowDims], by simp [rowDims]⟩)]
    simp only [Nat.zero_add]
    rfl

/-- A taken column at an index. -/
theorem takeColumn_apply {B R N m : Nat} {α : Type} (hN : N < 2 ^ 31) (wf) (x : (⟨3, ![B, R, N]⟩ : Shape).Idx → α)
    (idx : IVec ⟨3, ![B, m, 1]⟩ 32) (b : Fin B) (k : Fin R) (p : Fin m) (c : Fin N) (hc : idx (ix3 b p 0) = BitVec.ofNat 32 c.val) :
    Host.gather (columnDims B R N m wf) x idx (ix3 b k p) = x (ix3 b k c) := by
  unfold Host.gather
  congr 1
  funext a
  refine Fin.ext ?_
  show (columnDims B R N m wf).start (ix3 b k p) idx a + (columnDims B R N m wf).batchCoord (ix3 b k p) a
      + (columnDims B R N m wf).offCoord (ix3 b k p) a = _
  match a with
  | ⟨0, _⟩ =>
    show (columnDims B R N m wf).start (ix3 b k p) idx (0 : Fin 3) + (columnDims B R N m wf).batchCoord (ix3 b k p) (0 : Fin 3)
      + (columnDims B R N m wf).offCoord (ix3 b k p) (0 : Fin 3) = b.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ (columnDims B R N m wf).operandBatchingDims from List.mem_singleton.mpr rfl)]
    rfl
  | ⟨2, _⟩ =>
    show (columnDims B R N m wf).start (ix3 b k p) idx (2 : Fin 3) + (columnDims B R N m wf).batchCoord (ix3 b k p) (2 : Fin 3)
      + (columnDims B R N m wf).offCoord (ix3 b k p) (2 : Fin 3) = c.val
    rw [GatherDims.batchCoord_eq_zero _ _ _ (fun h => by simp [columnDims] at h),
      GatherDims.offCoord_eq_zero _ _ _ (fun h => ((GatherDims.mem_sKept _ _).mp h).1 (List.mem_singleton.mpr rfl))]
    simp only [Nat.add_zero]
    unfold GatherDims.start
    rw [dif_pos (show (2 : Fin 3) ∈ (columnDims B R N m wf).startIndexMap from List.mem_singleton.mpr rfl)]
    have hsi : (columnDims B R N m wf).siIdx (ix3 b k p) ⟨List.idxOf (2 : Fin 3) (columnDims B R N m wf).startIndexMap,
        List.idxOf_lt_length_iff.2 (List.mem_singleton.mpr rfl)⟩ = ix3 b p 0 := by
      funext z; refine Fin.ext ?_
      match z with
      | ⟨0, _⟩ => rfl
      | ⟨1, _⟩ => rfl
      | ⟨2, _⟩ => rfl
    rw [hsi, hc]
    exact cut_word hN c
  | ⟨1, _⟩ =>
    show (columnDims B R N m wf).start (ix3 b k p) idx (1 : Fin 3) + (columnDims B R N m wf).batchCoord (ix3 b k p) (1 : Fin 3)
      + (columnDims B R N m wf).offCoord (ix3 b k p) (1 : Fin 3) = k.val
    rw [GatherDims.batchCoord_eq_zero _ _ _ (fun h => by simp [columnDims] at h)]
    unfold GatherDims.start GatherDims.offCoord
    rw [dif_neg (fun h => by simp [columnDims] at h),
      dif_pos ((GatherDims.mem_sKept _ _).mpr ⟨by simp [columnDims], by simp [columnDims]⟩)]
    simp only [Nat.zero_add]
    rfl

/-- A small number is inside its range as a word: the reference's two comparisons hold. -/
theorem inside_word {N : Nat} (hN : N < 2 ^ 31) (c : Fin N) :
    IntOp.andi (IntOp.cmpi .sge (BitVec.ofNat 32 c.val) 0#32) (IntOp.cmpi .sle (BitVec.ofNat 32 c.val) (BitVec.ofNat 32 (N - 1))) = 1#1 := by
  have e1 : IntOp.cmpi .sge (BitVec.ofNat 32 c.val) 0#32 = 1#1 := by
    show BitVec.ofBool (BitVec.sle _ _) = _
    rw [BitVec.sle, toInt_word c.val (by omega)]
    simp
  have e2 : IntOp.cmpi .sle (BitVec.ofNat 32 c.val) (BitVec.ofNat 32 (N - 1)) = 1#1 := by
    show BitVec.ofBool (BitVec.sle _ _) = _
    rw [BitVec.sle, toInt_word _ (by omega), toInt_word _ (by omega)]
    have : (c.val : Int) ≤ ((N - 1 : Nat) : Int) := by omega
    simp only [this, decide_true]
    rfl
  rw [e1, e2]
  rfl

/-- The conjunction of one flag that is set. -/
theorem fold_flag (f : Fin 1 → BitVec 1) (h : f 0 = 1#1) : Finset.univ.fold IntOp.andi (1#1) f = 1#1 := by
  rw [Finset.univ_unique, Finset.fold_singleton]
  show IntOp.andi (f 0) 1#1 = 1#1
  rw [h]
  rfl

/-- A selection by a set flag takes its first value. -/
theorem select_set {α : Type} (a b : α) : Scalar.select 1#1 a b = a := rfl

end Cert.Net

end
-- ==== Proof.RefKeep.lean ====
/- The reference's first selection, at an index: the kept rows and the kept adjacency. -/
module

public import proofs.«01_k».proof.Proof.RefFirst
public import proofs.«01_k».proof.Proof.Take

@[expose] public section

set_option maxRecDepth 16384

noncomputable section

namespace Cert.ReferenceIdeal.Stage

open Cert.ReferenceIdeal Cert.ReferenceIdeal.Gen Cert.ReferenceIdeal.Read Idealize.ShloMosaic Idealize.ShloMosaic.TcCoe
  Idealize.SL.Sem Idealize.ShloMosaic.StableHlo

variable (x0 : Vec Ideal S4096x112x112 .f32) (x1 : Vec Ideal S112x8 .f32) (x2 : Vec Ideal S8x3584 .f32) (x3 : Vec Ideal S32 .f32)
  (x4 : Vec Ideal S32x1 .f32) (x5 : Vec Ideal S1 .f32)

/-- A sample's first scores. -/
def scores (b : Fin 4096) (i : Fin 112) : EReal := val_main_v27 (F := Ideal) x0 x1 x2 x3 x4 x5 (ix2 b i)

/-- The node a sample keeps at a place. -/
def kept (b : Fin 4096) (p : Fin 56) : Fin 112 := Net.place (by decide) (scores x0 x1 x2 x3 x4 x5 b) p

/-- The first top-k's values. -/
theorem values_apply (b : Fin 4096) (p : Fin 56) : val_main_values (F := Ideal) x0 x1 x2 x3 x4 x5 (ix2 b p) =
    scores x0 x1 x2 x3 x4 x5 b (kept x0 x1 x2 x3 x4 x5 b p) :=
  (Net.topK_apply (by decide) _ _ b p).1

/-- The first top-k's numbers. -/
theorem indices_apply (b : Fin 4096) (p : Fin 56) : val_main_indices (F := Ideal) x0 x1 x2 x3 x4 x5 (ix2 b p) =
    BitVec.ofNat 32 (kept x0 x1 x2 x3 x4 x5 b p).val :=
  (Net.topK_apply (by decide) _ _ b p).2

/-- The numbers the rows are taken by. -/
theorem rowNumber (b : Fin 4096) (p : Fin 56) : val_main_call1_v4 (F := Ideal) x0 x1 x2 x3 x4 x5 (ix3 b p 0) =
    BitVec.ofNat 32 (kept x0 x1 x2 x3 x4 x5 b p).val := by
  unfold val_main_call1_v4 val_main_call1_v1 val_main_v28 val_main_call1_v0 val_main_call1_c
  pointwise
  rw [indices_apply]
  exact Net.keep_word _ (by omega) _

/-- Every row number is inside. -/
theorem rowMask (b : Fin 4096) (p : Fin 56) : val_main_call1_v11 (F := Ideal) x0 x1 x2 x3 x4 x5 (ix2 b p) = 1#1 := by
  unfold val_main_call1_v11 val_main_call1_v10 val_main_call1_v9 val_main_call1_v8 val_main_call1_v7 val_main_call1_v6 val_main_call1_v5
    val_main_call1_c_1 val_main_call1_c_2 val_main_call1_c_3
  pointwise
  refine Net.fold_flag _ ?_
  rw [rowNumber]
  exact Net.inside_word (N := 112) (by norm_num) _

/-- A kept row. -/
theorem row_apply (b : Fin 4096) (p : Fin 56) (k : Fin 32) : val_main_v29 (F := Ideal) x0 x1 x2 x3 x4 x5 (ix3 b p k) =
    val_main_v16 (F := Ideal) x0 x1 x2 x3 (ix3 b (kept x0 x1 x2 x3 x4 x5 b p) k) := by
  unfold val_main_v29 val_main_call1_v13
  pointwise
  rw [rowMask, Net.select_set]
  exact Net.takeRow_apply (by norm_num) gather_S4096x112x32_S4096x56x1_S4096x56x32_2_1_0_0_1_2_1132_wf
    (val_main_v16 (F := Ideal) x0 x1 x2 x3) _ b p k _ (rowNumber x0 x1 x2 x3 x4 x5 b p)

/-- The kept rows times their scores. -/
theorem pool_apply (b : Fin 4096) (p : Fin 56) (k : Fin 32) : val_main_v32 (F := Ideal) x0 x1 x2 x3 x4 x5 (ix3 b p k) =
    Net.pool (by decide) (fun i k => val_main_v16 (F := Ideal) x0 x1 x2 x3 (ix3 b i k)) (scores x0 x1 x2 x3 x4 x5 b) p k := by
  unfold val_main_v32 val_main_v31 val_main_v30
  pointwise
  rw [row_apply, values_apply]
  rfl

/-- The numbers the adjacency's rows are taken by. -/
theorem matrixNumber (b : Fin 4096) (p : Fin 56) : val_main_call2_v4 (F := Ideal) x0 x1 x2 x3 x4 x5 (ix3 b p 0) =
    BitVec.ofNat 32 (kept x0 x1 x2 x3 x4 x5 b p).val := by
  unfold val_main_call2_v4 val_main_call2_v1 val_main_v33 val_main_call2_v0 val_main_call2_c
  pointwise
  rw [indices_apply]
  exact Net.keep_word _ (by omega) _

/-- Every such number is inside. -/
theorem matrixMask (b : Fin 4096) (p : Fin 56) : val_main_call2_v11 (F := Ideal) x0 x1 x2 x3 x4 x5 (ix2 b p) = 1#1 := by
  unfold val_main_call2_v11 val_main_call2_v10 val_main_call2_v9 val_main_call2_v8 val_main_call2_v7 val_main_call2_v6 val_main_call2_v5
    val_main_call2_c_1 val_main_call2_c_2 val_main_call2_c_3
  pointwise
  refine Net.fold_flag _ ?_
  rw [matrixNumber]
  exact Net.inside_word (N := 112) (by norm_num) _

/-- A kept row of the adjacency. -/
theorem matrixRow_apply (b : Fin 4096) (p : Fin 56) (j : Fin 112) : val_main_v34 (F := Ideal) x0 x1 x2 x3 x4 x5 (ix3 b p j) =
    x0 (ix3 b (kept x0 x1 x2 x3 x4 x5 b p) j) := by
  unfold val_main_v34 val_main_call2_v13
  pointwise
  rw [matrixMask, Net.select_set]
  exact Net.takeRow_apply (by norm_num) gather_S4096x112x112_S4096x56x1_S4096x56x112_2_1_0_0_1_2_11112_wf
    x0 _ b p j _ (matrixNumber x0 x1 x2 x3 x4 x5 b p)

/-- The numbers the adjacency's columns are taken by. -/
theorem columnNumber (b : Fin 4096) (p : Fin 56) : val_main_call3_v5 (F := Ideal) x0 x1 x2 x3 x4 x5 (ix3 b p 0) =
    BitVec.ofNat 32 (kept x0 x1 x2 x3 x4 x5 b p).val := by
  unfold val_main_call3_v5 val_main_call3_v4 val_main_call3_v1 val_main_v35 val_main_call3_v0 val_main_call3_c
  pointwise
  rw [indices_apply]
  exact Net.keep_word _ (by omega) _

/-- Every such number is inside. -/
theorem columnMask (b : Fin 4096) (p : Fin 56) : val_main_call3_v12 (F := Ideal) x0 x1 x2 x3 x4 x5 (ix2 b p) = 1#1 := by
  unfold val_main_call3_v12 val_main_call3_v11 val_main_call3_v10 val_main_call3_v9 val_main_call3_v8 val_main_call3_v7 val_main_call3_v6
    val_main_call3_c_1 val_main_call3_c_2 val_main_call3_c_3
  pointwise
  refine Net.fold_flag _ ?_
  rw [columnNumber]
  exact Net.inside_word (N := 112) (by norm_num) _

/-- An entry of the adjacency between kept nodes. -/
theorem matrixEntry_apply (b : Fin 4096) (p q : Fin 56) : val_main_v36 (F := Ideal) x0 x1 x2 x3 x4 x5 (ix3 b p q) =
    x0 (ix3 b (kept x0 x1 x2 x3 x4 x5 b p) (kept x0 x1 x2 x3 x4 x5 b q)) := by
  unfold val_main_v36 val_main_call3_v14
  pointwise
  rw [columnMask, Net.select_set]
  unfold val_main_call3_v13
  rw [← matrixRow_apply x0 x1 x2 x3 x4 x5 b p]
  exact Net.takeColumn_apply (by norm_num) gather_S4096x56x112_S4096x56x1_S4096x56x56_1_2_0_0_2_2_1561_wf
    (val_main_v34 (F := Ideal) x0 x1 x2 x3 x4 x5) _ b p q _ (columnNumber x0 x1 x2 x3 x4 x5 b q)

/-- The kept adjacency over its row sums. -/
theorem keep_apply (b : Fin 4096) (p q : Fin 56) : val_main_v41 (F := Ideal) x0 x1 x2 x3 x4 x5 (ix3 b p q) =
    Net.keep (by decide) (fun i j => x0 (ix3 b i j)) (scores x0 x1 x2 x3 x4 x5 b) p q := by
  unfold val_main_v41 val_main_v40 val_main_v39 val_main_v38 val_main_v37 val_main_cst_1
  pointwise
  simp only [matrixEntry_apply]
  rfl

end Cert.ReferenceIdeal.Stage

end
-- ==== Proof.RefHead.lean ====
/- The reference's second layer, second selection and result, at an index. -/
module

public import proofs.«01_k».proof.Proof.RefKeep

@[expose] public section

set_option maxRecDepth 16384

noncomputable section

namespace Cert.ReferenceIdeal.Stage

open Cert.ReferenceIdeal Cert.ReferenceIdeal.Gen Cert.ReferenceIdeal.Read Idealize.ShloMosaic Idealize.ShloMosaic.TcCoe
  Idealize.SL.Sem Idealize.ShloMosaic.StableHlo

variable (x0 : Vec Ideal S4096x112x112 .f32) (x1 : Vec Ideal S112x8 .f32) (x2 : Vec Ideal S8x3584 .f32) (x3 : Vec Ideal S32 .f32)
  (x4 : Vec Ideal S32x1 .f32) (x5 : Vec Ideal S1 .f32) (x6 : Vec Ideal S56x8 .f32) (x7 : Vec Ideal S8x1024 .f32) (x8 : Vec Ideal S32 .f32)
  (x9 : Vec Ideal S32x1 .f32) (x10 : Vec Ideal S1 .f32) (x11 : Vec Ideal S32x16 .f32) (x12 : Vec Ideal S16 .f32)
  (x13 : Vec Ideal S16x1 .f32) (x14 : Vec Ideal S1 .f32)

/-- The second layer's weights. -/
def second : Fin 56 → Fin 32 → Fin 32 → EReal := Net.secondWeights (fun i c => x6 (ix2 i c)) fun c k => x7 (ix2 c k)

/-- A sample's kept rows times the second layer's weights. -/
theorem weigh_apply (b : Fin 4096) (i : Fin 56) (o : Fin 32) : val_main_v45 (F := Ideal) x0 x1 x2 x3 x4 x5 x6 x7 (ix3 b i o) =
    Net.weigh (fun i k => val_main_v32 (F := Ideal) x0 x1 x2 x3 x4 x5 (ix3 b i k)) (second x6 x7) i o := by
  unfold val_main_v45 val_main_v44 val_main_v43 val_main_v42
  pointwise
  exact Finset.sum_congr rfl fun k _ => mul_comm _ _

/-- The second convolution. -/
theorem conv2_apply (b : Fin 4096) (i : Fin 56) (o : Fin 32) : val_main_v51 (F := Ideal) x0 x1 x2 x3 x4 x5 x6 x7 x8 (ix3 b i o) =
    Net.conv (fun i j => val_main_v41 (F := Ideal) x0 x1 x2 x3 x4 x5 (ix3 b i j))
      (fun i o => val_main_v45 (F := Ideal) x0 x1 x2 x3 x4 x5 x6 x7 (ix3 b i o) + x8 (ix1 o)) i o := by
  unfold val_main_v51 val_main_v50 val_main_v49 val_main_v48 val_main_v47 val_main_v46 val_main_call4_v0 val_main_call4_cst
  pointwise
  rfl

/-- The second scores. -/
theorem score2_apply (b : Fin 4096) (i : Fin 56) : val_main_v62 (F := Ideal) x0 x1 x2 x3 x4 x5 x6 x7 x8 x9 x10 (ix2 b i) =
    Net.score (fun i k => val_main_v51 (F := Ideal) x0 x1 x2 x3 x4 x5 x6 x7 x8 (ix3 b i k)) (fun k => x9 (ix2 k 0)) (x10 (ix1 0)) i := by
  unfold val_main_v62 val_main_v61 val_main_v60 val_main_v59 val_main_v58 val_main_v57 val_main_v56 val_main_v55 val_main_v54
    val_main_v53 val_main_v52 val_main_cst_2 val_main_cst_3
  pointwise
  rfl

/-- A sample's second scores. -/
def scores2 (b : Fin 4096) (i : Fin 56) : EReal := val_main_v62 (F := Ideal) x0 x1 x2 x3 x4 x5 x6 x7 x8 x9 x10 (ix2 b i)

/-- The kept node a sample keeps again at a place. -/
def kept2 (b : Fin 4096) (p : Fin 28) : Fin 56 := Net.place (by decide) (scores2 x0 x1 x2 x3 x4 x5 x6 x7 x8 x9 x10 b) p

/-- The second top-k's values. -/
theorem values2_apply (b : Fin 4096) (p : Fin 28) : val_main_values_4 (F := Ideal) x0 x1 x2 x3 x4 x5 x6 x7 x8 x9 x10 (ix2 b p) =
    scores2 x0 x1 x2 x3 x4 x5 x6 x7 x8 x9 x10 b (kept2 x0 x1 x2 x3 x4 x5 x6 x7 x8 x9 x10 b p) :=
  (Net.topK_apply (by decide) _ _ b p).1

/-- The second top-k's numbers. -/
theorem indices2_apply (b : Fin 4096) (p : Fin 28) : val_main_indices_5 (F := Ideal) x0 x1 x2 x3 x4 x5 x6 x7 x8 x9 x10 (ix2 b p) =
    BitVec.ofNat 32 (kept2 x0 x1 x2 x3 x4 x5 x6 x7 x8 x9 x10 b p).val :=
  (Net.topK_apply (by decide) _ _ b p).2

/-- The numbers the rows are taken by. -/
theorem rowNumber2 (b : Fin 4096) (p : Fin 28) : val_main_call5_v4 (F := Ideal) x0 x1 x2 x3 x4 x5 x6 x7 x8 x9 x10 (ix3 b p 0) =
    BitVec.ofNat 32 (kept2 x0 x1 x2 x3 x4 x5 x6 x7 x8 x9 x10 b p).val := by
  unfold val_main_call5_v4 val_main_call5_v1 val_main_v63 val_main_call5_v0 val_main_call5_c
  pointwise
  rw [indices2_apply]
  exact Net.keep_word _ (by omega) _

/-- Every row number is inside. -/
theorem rowMask2 (b : Fin 4096) (p : Fin 28) : val_main_call5_v11 (F := Ideal) x0 x1 x2 x3 x4 x5 x6 x7 x8 x9 x10 (ix2 b p) = 1#1 := by
  unfold val_main_call5_v11 val_main_call5_v10 val_main_call5_v9 val_main_call5_v8 val_main_call5_v7 val_main_call5_v6 val_main_call5_v5
    val_main_call5_c_1 val_main_call5_c_2 val_main_call5_c_3
  pointwise
  refine Net.fold_flag _ ?_
  rw [rowNumber2]
  exact Net.inside_word (N := 56) (by norm_num) _

/-- A row kept again. -/
theorem row2_apply (b : Fin 4096) (p : Fin 28) (k : Fin 32) : val_main_v64 (F := Ideal) x0 x1 x2 x3 x4 x5 x6 x7 x8 x9 x10 (ix3 b p k) =
    val_main_v51 (F := Ideal) x0 x1 x2 x3 x4 x5 x6 x7 x8 (ix3 b (kept2 x0 x1 x2 x3 x4 x5 x6 x7 x8 x9 x10 b p) k) := by
  unfold val_main_v64 val_main_call5_v13
  pointwise
  rw [rowMask2, Net.select_set]
  exact Net.takeRow_apply (by norm_num) gather_S4096x56x32_S4096x28x1_S4096x28x32_2_1_0_0_1_2_1132_wf
    (val_main_v51 (F := Ideal) x0 x1 x2 x3 x4 x5 x6 x7 x8) _ b p k _ (rowNumber2 x0 x1 x2 x3 x4 x5 x6 x7 x8 x9 x10 b p)

/-- The rows kept again times their scores. -/
theorem pool2_apply (b : Fin 4096) (p : Fin 28) (k : Fin 32) : val_main_v67 (F := Ideal) x0 x1 x2 x3 x4 x5 x6 x7 x8 x9 x10 (ix3 b p k) =
    Net.pool (by decide) (fun i k => val_main_v51 (F := Ideal) x0 x1 x2 x3 x4 x5 x6 x7 x8 (ix3 b i k))
      (scores2 x0 x1 x2 x3 x4 x5 x6 x7 x8 x9 x10 b) p k := by
  unfold val_main_v67 val_main_v66 val_main_v65
  pointwise
  rw [row2_apply, values2_apply]
  rfl

/-- The mean and the two dense layers. -/
theorem dense_apply (b : Fin 4096) : val_main_v88 (F := Ideal) x0 x1 x2 x3 x4 x5 x6 x7 x8 x9 x10 x11 x12 x13 x14 (ix2 b 0) =
    (∑ j : Fin 16, max ((∑ o : Fin 32, Ideal.div (∑ p : Fin 28, val_main_v67 (F := Ideal) x0 x1 x2 x3 x4 x5 x6 x7 x8 x9 x10 (ix3 b p o))
      (Ideal.ofBits .f32 0x41E00000#32) * x11 (ix2 o j)) + x12 (ix1 j)) 0 * x13 (ix2 j 0)) + x14 (ix1 0) := by
  unfold val_main_v88 val_main_v87 val_main_v86 val_main_v85 val_main_v84 val_main_v83 val_main_v82 val_main_v81 val_main_v80 val_main_v79
    val_main_v78 val_main_v77 val_main_call8_v0 val_main_call8_cst val_main_cst_7 val_main_cst_8
  pointwise

/-- The kept rows, all at once. -/
theorem pool_eq (b : Fin 4096) : (fun i k => val_main_v32 (F := Ideal) x0 x1 x2 x3 x4 x5 (ix3 b i k)) =
    Net.pool (by decide) (fun i k => val_main_v16 (F := Ideal) x0 x1 x2 x3 (ix3 b i k)) (scores x0 x1 x2 x3 x4 x5 b) :=
  funext fun p => funext fun k => pool_apply x0 x1 x2 x3 x4 x5 b p k

/-- The kept block, all at once. -/
theorem keep_eq (b : Fin 4096) : (fun i j => val_main_v41 (F := Ideal) x0 x1 x2 x3 x4 x5 (ix3 b i j)) =
    Net.keep (by decide) (fun i j => x0 (ix3 b i j)) (scores x0 x1 x2 x3 x4 x5 b) :=
  funext fun p => funext fun q => keep_apply x0 x1 x2 x3 x4 x5 b p q

/-- The second convolution, all at once, over the kept block and the kept rows. -/
theorem node2_eq (b : Fin 4096) : (fun i k => val_main_v51 (F := Ideal) x0 x1 x2 x3 x4 x5 x6 x7 x8 (ix3 b i k)) =
    Net.conv (fun i j => val_main_v41 (F := Ideal) x0 x1 x2 x3 x4 x5 (ix3 b i j)) fun i o =>
      Net.weigh (fun i k => val_main_v32 (F := Ideal) x0 x1 x2 x3 x4 x5 (ix3 b i k)) (second x6 x7) i o + x8 (ix1 o) := by
  funext i k
  rw [conv2_apply]
  simp only [weigh_apply]

/-- The second scores, all at once. -/
theorem scores2_eq (b : Fin 4096) : scores2 x0 x1 x2 x3 x4 x5 x6 x7 x8 x9 x10 b =
    Net.score (fun i k => val_main_v51 (F := Ideal) x0 x1 x2 x3 x4 x5 x6 x7 x8 (ix3 b i k)) (fun k => x9 (ix2 k 0)) (x10 (ix1 0)) :=
  funext fun i => score2_apply x0 x1 x2 x3 x4 x5 x6 x7 x8 x9 x10 b i

/-- The reference's result for a sample is the network's value at the sample's matrix. -/
theorem result_apply (b : Fin 4096) : val_main_v88 (F := Ideal) x0 x1 x2 x3 x4 x5 x6 x7 x8 x9 x10 x11 x12 x13 x14 (ix2 b 0) =
    Net.net (first x1 x2 x3) (second x6 x7) (fun k => x4 (ix2 k 0)) (x5 (ix1 0)) (fun o => x8 (ix1 o)) (fun k => x9 (ix2 k 0)) (x10 (ix1 0))
      (fun k j => x11 (ix2 k j)) (fun j => x12 (ix1 j)) (fun j => x13 (ix2 j 0)) (x14 (ix1 0)) (fun i j => x0 (ix3 b i j)) := by
  have e1 : (fun i k => val_main_v16 (F := Ideal) x0 x1 x2 x3 (ix3 b i k)) = Net.conv (fun i j => x0 (ix3 b i j)) (first x1 x2 x3) :=
    funext fun i => funext fun k => conv_apply x0 x1 x2 x3 b i k
  have e2 : scores x0 x1 x2 x3 x4 x5 b = Net.score (Net.conv (fun i j => x0 (ix3 b i j)) (first x1 x2 x3)) (fun k => x4 (ix2 k 0)) (x5 (ix1 0)) :=
    funext fun i => (score_apply x0 x1 x2 x3 x4 x5 b i).trans (by rw [e1])
  rw [dense_apply]
  simp only [pool2_apply, scores2_eq, node2_eq, pool_eq, keep_eq, e1, e2]
  rfl

end Cert.ReferenceIdeal.Stage

end
-- ==== Proof.Agree.lean ====
/- The idealized kernel and the reference end at the same result: both are the network's value at each sample of the arguments. -/
module

public import proofs.«01_k».proof.Defs
public import proofs.«01_k».proof.Proof.Run
public import proofs.«01_k».proof.Proof.RefHead
public import proofs.«01_k».proof.Proof.Gen.ReferenceIdeal.Run

@[expose] public section

set_option maxRecDepth 16384

noncomputable section

namespace Cert.Proof

open Idealize.ShloMosaic Idealize.ShloMosaic.TcCoe Idealize.SL.Sem Idealize.ShloMosaic.StableHlo

/-- The reference's result as the arguments: the network's value at each sample. -/
theorem reference_value (x0 : Vec Ideal ReferenceIdeal.S4096x112x112 .f32) (x1 : Vec Ideal ReferenceIdeal.S112x8 .f32)
    (x2 : Vec Ideal ReferenceIdeal.S8x3584 .f32) (x3 : Vec Ideal ReferenceIdeal.S32 .f32) (x4 : Vec Ideal ReferenceIdeal.S32x1 .f32)
    (x5 : Vec Ideal ReferenceIdeal.S1 .f32) (x6 : Vec Ideal ReferenceIdeal.S56x8 .f32) (x7 : Vec Ideal ReferenceIdeal.S8x1024 .f32)
    (x8 : Vec Ideal ReferenceIdeal.S32 .f32) (x9 : Vec Ideal ReferenceIdeal.S32x1 .f32) (x10 : Vec Ideal ReferenceIdeal.S1 .f32)
    (x11 : Vec Ideal ReferenceIdeal.S32x16 .f32) (x12 : Vec Ideal ReferenceIdeal.S16 .f32) (x13 : Vec Ideal ReferenceIdeal.S16x1 .f32)
    (x14 : Vec Ideal ReferenceIdeal.S1 .f32) (y : ReferenceIdeal.S4096x1.Idx) :
    ReferenceIdeal.Read.val_main_v88 (F := Ideal) x0 x1 x2 x3 x4 x5 x6 x7 x8 x9 x10 x11 x12 x13 x14 y =
      KernelIdeal.Body.valueOf x0 x1 x2 x3 x4 x5 x6 x7 x8 x9 x10 x11 x12 x13 x14 (y 0) := by
  have hy : y = ix2 (y 0) 0 := Shape.idx_ext₂ rfl (Nat.lt_one_iff.mp (y 1).isLt)
  exact (congrArg _ hy).trans (ReferenceIdeal.Stage.result_apply x0 x1 x2 x3 x4 x5 x6 x7 x8 x9 x10 x11 x12 x13 x14 (y 0))

/-- From agreeing arguments the reference's result is the kernel's. -/
theorem results_agree (m : (ℓ : Loc KernelIdeal.nD KernelIdeal.τ KernelIdeal.sig) → Buf (Elt Ideal) ℓ) (c : Dev KernelIdeal.nD) :
    ReferenceIdeal.Read.val_main_v88 (F := Ideal)
      (m ((c.tc : Thread KernelIdeal.nD KernelIdeal.τ).loc KernelIdeal.main_arg0))
      (m ((c.tc : Thread KernelIdeal.nD KernelIdeal.τ).loc KernelIdeal.main_arg1))
      (m ((c.tc : Thread KernelIdeal.nD KernelIdeal.τ).loc KernelIdeal.main_arg2))
      (m ((c.tc : Thread KernelIdeal.nD KernelIdeal.τ).loc KernelIdeal.main_arg3))
      (m ((c.tc : Thread KernelIdeal.nD KernelIdeal.τ).loc KernelIdeal.main_arg4))
      (m ((c.tc : Thread KernelIdeal.nD KernelIdeal.τ).loc KernelIdeal.main_arg5))
      (m ((c.tc : Thread KernelIdeal.nD KernelIdeal.τ).loc KernelIdeal.main_arg6))
      (m ((c.tc : Thread KernelIdeal.nD KernelIdeal.τ).loc KernelIdeal.main_arg7))
      (m ((c.tc : Thread KernelIdeal.nD KernelIdeal.τ).loc KernelIdeal.main_arg8))
      (m ((c.tc : Thread KernelIdeal.nD KernelIdeal.τ).loc KernelIdeal.main_arg9))
      (m ((c.tc : Thread KernelIdeal.nD KernelIdeal.τ).loc KernelIdeal.main_arg10))
      (m ((c.tc : Thread KernelIdeal.nD KernelIdeal.τ).loc KernelIdeal.main_arg11))
      (m ((c.tc : Thread KernelIdeal.nD KernelIdeal.τ).loc KernelIdeal.main_arg12))
      (m ((c.tc : Thread KernelIdeal.nD KernelIdeal.τ).loc KernelIdeal.main_arg13))
      (m ((c.tc : Thread KernelIdeal.nD KernelIdeal.τ).loc KernelIdeal.main_arg14)) =
      KernelIdeal.Body.kernelResult m c :=
  funext fun y => reference_value _ _ _ _ _ _ _ _ _ _ _ _ _ _ _ y

/-- The idealized kernel computes the reference's result. -/
theorem algebraic : Cert.algebraic_KernelIdeal_ReferenceIdeal := by
  intro m g m' g' _ hagree
  refine ⟨fun c => KernelIdeal.Body.kernelResult m c, ?_, ?_⟩
  · refine (θ_run Cert.KernelIdeal.defs _ _).mono (fun r h c => ?_) (KernelIdeal.Body.buffers_end m g)
    have held := KernelIdeal.Body.arg_held m g c (h c)
    refine ⟨(h c _ (KernelIdeal.Gen.mem_uc KernelIdeal.main_v10 (by decide))).trans (KernelIdeal.Body.result_held m g c), ?_⟩
    refine ⟨?_, ?_, ?_, ?_, ?_, ?_, ?_, ?_, ?_, ?_, ?_, ?_, ?_, ?_, ?_⟩ <;> exact held _ (by decide) (by decide)
  · refine (θ_run Cert.ReferenceIdeal.defs _ _).mono (fun _ h c =>
      ⟨(h c).1.trans ((ReferenceIdeal.Read.val_main_v88_eq (launchContents m' c)).trans (Eq.trans ?_ (results_agree m c))), (h c).2⟩)
      (Cert.ReferenceIdeal.Value.run (F := Ideal) m' g')
    obtain ⟨h0, h1, h2, h3, h4, h5, h6, h7, h8, h9, h10, h11, h12, h13, h14⟩ := hagree c
    rw [← h0, ← h1, ← h2, ← h3, ← h4, ← h5, ← h6, ← h7, ← h8, ← h9, ← h10, ← h11, ← h12, ← h13, ← h14]

end Cert.Proof

end
-- ==== Proof.lean ====
/- The claims, assembled: the frames of the kernel, of its idealization and of the reference, the idealization's faithfulness, and the
   idealized kernel's result being the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The kernel's frame at the machine's words. -/
theorem frame_k : Cert.quiescent_Kernel := fun m ρ _ => Cert.Kernel.Gen.frame m ρ

/-- The idealized kernel's frame. -/
theorem frame_ki : Cert.quiescent_KernelIdeal := fun m ρ _ => Cert.KernelIdeal.Gen.frame m ρ

/-- The reference's frame, read off its run; it declares no semaphore. -/
theorem frame_ri : Cert.quiescent_ReferenceIdeal := fun m ρ _ =>
  (θ_run _ _ _).mono (fun _ h => ⟨fun c => (h c).2, sem_eq_zero_of_no_sems rfl _⟩) (Cert.ReferenceIdeal.Value.run m ρ)

/-- The claim. -/
theorem claim : Cert.Claim := ⟨Cert.Kernel.Gen.facts, Cert.KernelIdeal.Gen.facts, Cert.ReferenceIdeal.Gen.facts,
  frame_k, frame_ki, frame_ri, trivial, algebraic⟩

end Cert.Proof

end
